-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v360) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x8x256 : Shape := ⟨3, ![10000, 8, 256]⟩
abbrev S10000x200 : Shape := ⟨2, ![10000, 200]⟩
abbrev S2x160000 : Shape := ⟨2, ![2, 160000]⟩
abbrev S1152x256 : Shape := ⟨2, ![1152, 256]⟩
abbrev S1152x384 : Shape := ⟨2, ![1152, 384]⟩
abbrev S1152 : Shape := ⟨1, ![1152]⟩
abbrev S128x384 : Shape := ⟨2, ![128, 384]⟩
abbrev S128 : Shape := ⟨1, ![128]⟩
abbrev S128x200 : Shape := ⟨2, ![128, 200]⟩
abbrev S2x512 : Shape := ⟨2, ![2, 512]⟩
abbrev S2 : Shape := ⟨1, ![2]⟩
abbrev S_ : Shape := ⟨0, ![]⟩

class Facts : Prop where
  bcast_S_S10000x200 : S_.BroadcastsInDim S10000x200 (![] : Fin 0 → Fin S10000x200.rank)
  reducesTo_S10000x200_S_d0_1 : S10000x200.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x200 : S_.BroadcastsInDim S128x200 (![] : Fin 0 → Fin S128x200.rank)
  reducesTo_S128x200_S_d0_1 : S128x200.ReducesTo [0, 1] S_
  bcast_S_S2x512 : S_.BroadcastsInDim S2x512 (![] : Fin 0 → Fin S2x512.rank)
  reducesTo_S2x512_S_d0_1 : S2x512.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg15 : FVec F S2x512 .f32) (main_arg16 : FVec F S2 .f32) (main_v33 : IVec S_ 1) : IVec S_ 1 :=
  let main_v34 : FVec F S2x512 .f32 := Host.absf main_arg15
  let main_cst_12 : FVec F S_ .f32 := constant S_ .f32 0x7F800000#32
  let main_v35 : FVec F S2x512 .f32 := broadcastInDim S2x512 ![] bcast_S_S2x512 main_cst_12
  let main_v36 : IVec S2x512 1 := cmpf .olt main_v34 main_v35
  let main_c_13 : IVec S_ 1 := constantI S_ 1 1#1
  let main_v37 : IVec S_ 1 := (fun x v => Host.reduce IntOp.andi x v reducesTo_S2x512_S_d0_1 h_S_) main_v36 main_c_13
  let main_v38 : IVec S_ 1 := andi main_v33 main_v37
  let main_v39 : FVec F S2 .f32 := Host.absf main_arg16
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg12 : FVec F S128 .f32) (main_arg13 : FVec F S128x200 .f32) (main_arg14 : FVec F S128 .f32) (main_arg15 : FVec F S2x512 .f32) (main_arg16 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg12
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x200 .f32 := Host.absf main_arg13
  let main_cst_8 : FVec F S_ .f32 := constant S_ .f32 0x7F800000#32
  let main_v25 : FVec F S128x200 .f32 := broadcastInDim S128x200 ![] bcast_S_S128x200 main_cst_8
  let main_v26 : IVec S128x200 1 := cmpf .olt main_v24 main_v25
  let main_c_9 : IVec S_ 1 := constantI S_ 1 1#1
  let main_v27 : IVec S_ 1 := (fun x v => Host.reduce IntOp.andi x v reducesTo_S128x200_S_d0_1 h_S_) main_v26 main_c_9
  let main_v28 : IVec S_ 1 := andi main_v23 main_v27
  let main_v29 : FVec F S128 .f32 := Host.absf main_arg14
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg15 main_arg16 main_v33

def fn {F : FTy → Type} [FloatOps F] (main_arg0 : FVec F S10000x8x256 .f32) (main_arg1 : FVec F S10000x200 .f32) (main_arg2 : IVec S2x160000 32) (main_arg3 : FVec F S1152x256 .f32) (main_arg4 : FVec F S1152x384 .f32) (main_arg5 : FVec F S1152 .f32) (main_arg6 : FVec F S1152 .f32) (main_arg7 : FVec F S128x384 .f32) (main_arg8 : FVec F S128 .f32) (main_arg9 : FVec F S128x384 .f32) (main_arg10 : FVec F S128 .f32) (main_arg11 : FVec F S128x384 .f32) (main_arg12 : FVec F S128 .f32) (main_arg13 : FVec F S128x200 .f32) (main_arg14 : FVec F S128 .f32) (main_arg15 : FVec F S2x512 .f32) (main_arg16 : FVec F S2 .f32) : IVec S_ 1 :=
  let main_v0 : FVec F S10000x200 .f32 := Host.absf main_arg1
  let main_cst : FVec F S_ .f32 := constant S_ .f32 0x7F800000#32
  let main_v1 : FVec F S10000x200 .f32 := broadcastInDim S10000x200 ![] bcast_S_S10000x200 main_cst
  let main_v2 : IVec S10000x200 1 := cmpf .olt main_v0 main_v1
  let main_c : IVec S_ 1 := constantI S_ 1 1#1
  let main_v3 : IVec S_ 1 := (fun x v => Host.reduce IntOp.andi x v reducesTo_S10000x200_S_d0_1 h_S_) main_v2 main_c
  let main_v4 : FVec F S128x384 .f32 := Host.absf main_arg7
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S128 .f32 := Host.absf main_arg8
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg10
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg12 main_arg13 main_arg14 main_arg15 main_arg16 main_v13 main_v16
-- ==== Kernel.lean ====
abbrev S10000x8x256 : Shape := ⟨3, ![10000, 8, 256]⟩
abbrev S10000x200 : Shape := ⟨2, ![10000, 200]⟩
abbrev S2x160000 : Shape := ⟨2, ![2, 160000]⟩
abbrev S1152x256 : Shape := ⟨2, ![1152, 256]⟩
abbrev S1152x384 : Shape := ⟨2, ![1152, 384]⟩
abbrev S1152 : Shape := ⟨1, ![1152]⟩
abbrev S128x384 : Shape := ⟨2, ![128, 384]⟩
abbrev S128 : Shape := ⟨1, ![128]⟩
abbrev S128x200 : Shape := ⟨2, ![128, 200]⟩
abbrev S2x512 : Shape := ⟨2, ![2, 512]⟩
abbrev S2 : Shape := ⟨1, ![2]⟩
abbrev S1x512 : Shape := ⟨2, ![1, 512]⟩
abbrev S512 : Shape := ⟨1, ![512]⟩
abbrev S384x128 : Shape := ⟨2, ![384, 128]⟩
abbrev S384 : Shape := ⟨1, ![384]⟩
abbrev S200x128 : Shape := ⟨2, ![200, 128]⟩
abbrev S200 : Shape := ⟨1, ![200]⟩
abbrev S1x128 : Shape := ⟨2, ![1, 128]⟩
abbrev S1 : Shape := ⟨1, ![1]⟩
abbrev S_ : Shape := ⟨0, ![]⟩
abbrev S256x1152 : Shape := ⟨2, ![256, 1152]⟩
abbrev S384x1152 : Shape := ⟨2, ![384, 1152]⟩
abbrev S256x768 : Shape := ⟨2, ![256, 768]⟩
abbrev S384x768 : Shape := ⟨2, ![384, 768]⟩
abbrev S640x768 : Shape := ⟨2, ![640, 768]⟩
abbrev S384x384 : Shape := ⟨2, ![384, 384]⟩
abbrev S8x10000x256 : Shape := ⟨3, ![8, 10000, 256]⟩
abbrev S768 : Shape := ⟨1, ![768]⟩
abbrev S1x768 : Shape := ⟨2, ![1, 768]⟩
abbrev S1x384 : Shape := ⟨2, ![1, 384]⟩
abbrev S1x200 : Shape := ⟨2, ![1, 200]⟩
abbrev S1x1 : Shape := ⟨2, ![1, 1]⟩
abbrev S10000x2 : Shape := ⟨2, ![10000, 2]⟩
abbrev S8x2000x256 : Shape := ⟨3, ![8, 2000, 256]⟩
abbrev S2000x200 : Shape := ⟨2, ![2000, 200]⟩
abbrev S2000x2 : Shape := ⟨2, ![2000, 2]⟩
abbrev S1x2000x256 : Shape := ⟨3, ![1, 2000, 256]⟩
abbrev S2000x256 : Shape := ⟨2, ![2000, 256]⟩
abbrev S2000x1152 : Shape := ⟨2, ![2000, 1152]⟩
abbrev S2000x768 : Shape := ⟨2, ![2000, 768]⟩
abbrev S2000x384 : Shape := ⟨2, ![2000, 384]⟩
abbrev S7x2000x256 : Shape := ⟨3, ![7, 2000, 256]⟩
abbrev S14000x256 : Shape := ⟨2, ![14000, 256]⟩
abbrev S256x384 : Shape := ⟨2, ![256, 384]⟩
abbrev S14000x384 : Shape := ⟨2, ![14000, 384]⟩
abbrev S7x2000x384 : Shape := ⟨3, ![7, 2000, 384]⟩
abbrev S400x384 : Shape := ⟨2, ![400, 384]⟩
abbrev S1x400x256 : Shape := ⟨3, ![1, 400, 256]⟩
abbrev S400x256 : Shape := ⟨2, ![400, 256]⟩
abbrev S400x640 : Shape := ⟨2, ![400, 640]⟩
abbrev S400x768 : Shape := ⟨2, ![400, 768]⟩
abbrev S1x400x384 : Shape := ⟨3, ![1, 400, 384]⟩
abbrev S2000 : Shape := ⟨1, ![2000]⟩
abbrev S2000x1 : Shape := ⟨2, ![2000, 1]⟩
abbrev S2x10000 : Shape := ⟨2, ![2, 10000]⟩

abbrev nBuf : Space → Nat
  | .hbm => 76
  | .vmem => 15
  | .smem => 0
  | _ => 0

abbrev bufTy : (tb : Table) → Fin (tcTables nBuf tb) → BufTy
  | .hbm, ⟨0, _⟩ => ⟨S10000x8x256, .f32⟩
  | .hbm, ⟨1, _⟩ => ⟨S10000x200, .f32⟩
  | .hbm, ⟨2, _⟩ => ⟨S2x160000, .i32⟩
  | .hbm, ⟨3, _⟩ => ⟨S1152x256, .f32⟩
  | .hbm, ⟨4, _⟩ => ⟨S1152x384, .f32⟩
  | .hbm, ⟨5, _⟩ => ⟨S1152, .f32⟩
  | .hbm, ⟨6, _⟩ => ⟨S1152, .f32⟩
  | .hbm, ⟨7, _⟩ => ⟨S128x384, .f32⟩
  | .hbm, ⟨8, _⟩ => ⟨S128, .f32⟩
  | .hbm, ⟨9, _⟩ => ⟨S128x384, .f32⟩
  | .hbm, ⟨10, _⟩ => ⟨S128, .f32⟩
  | .hbm, ⟨11, _⟩ => ⟨S128x384, .f32⟩
  | .hbm, ⟨12, _⟩ => ⟨S128, .f32⟩
  | .hbm, ⟨13, _⟩ => ⟨S128x200, .f32⟩
  | .hbm, ⟨14, _⟩ => ⟨S128, .f32⟩
  | .hbm, ⟨15, _⟩ => ⟨S2x512, .f32⟩
  | .hbm, ⟨16, _⟩ => ⟨S2, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S512, .f32⟩
  | .hbm, ⟨21, _⟩ => ⟨S512, .f32⟩
  | .hbm, ⟨22, _⟩ => ⟨S384x128, .f32⟩
  | .hbm, ⟨23, _⟩ => ⟨S128, .f32⟩
  | .hbm, ⟨24, _⟩ => ⟨S384, .f32⟩
  | .hbm, ⟨25, _⟩ => ⟨S200x128, .f32⟩
  | .hbm, ⟨26, _⟩ => ⟨S128, .f32⟩
  | .hbm, ⟨27, _⟩ => ⟨S200, .f32⟩
  | .hbm, ⟨28, _⟩ => ⟨S1x128, .f32⟩
  | .hbm, ⟨29, _⟩ => ⟨S128, .f32⟩
  | .hbm, ⟨30, _⟩ => ⟨S1, .f32⟩
  | .hbm, ⟨31, _⟩ => ⟨S_, .f32⟩
  | .hbm, ⟨32, _⟩ => ⟨S1x128, .f32⟩
  | .hbm, ⟨33, _⟩ => ⟨S128, .f32⟩
  | .hbm, ⟨34, _⟩ => ⟨S1, .f32⟩
  | .hbm, ⟨35, _⟩ => ⟨S_, .f32⟩
  | .hbm, ⟨36, _⟩ => ⟨S_, .f32⟩
  | .hbm, ⟨37, _⟩ => ⟨S1x128, .f32⟩
  | .hbm, ⟨38, _⟩ => ⟨S128, .f32⟩
  | .hbm, ⟨39, _⟩ => ⟨S1, .f32⟩
  | .hbm, ⟨40, _⟩ => ⟨S_, .f32⟩
  | .hbm, ⟨41, _⟩ => ⟨S_, .f32⟩
  | .hbm, ⟨42, _⟩ => ⟨S1x128, .f32⟩
  | .hbm, ⟨43, _⟩ => ⟨S128, .f32⟩
  | .hbm, ⟨44, _⟩ => ⟨S1, .f32⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S256x1152, .f32⟩
  | .hbm, ⟨54, _⟩ => ⟨S256x1152, .bf16⟩
  | .hbm, ⟨55, _⟩ => ⟨S384x1152, .f32⟩
  | .hbm, ⟨56, _⟩ => ⟨S384x1152, .bf16⟩
  | .hbm, ⟨57, _⟩ => ⟨S256x768, .bf16⟩
  | .hbm, ⟨58, _⟩ => ⟨S384x768, .bf16⟩
  | .hbm, ⟨59, _⟩ => ⟨S640x768, .bf16⟩
  | .hbm, ⟨60, _⟩ => ⟨S384x384, .bf16⟩
  | .hbm, ⟨61, _⟩ => ⟨S8x10000x256, .f32⟩
  | .hbm, ⟨62, _⟩ => ⟨S8x10000x256, .bf16⟩
  | .hbm, ⟨63, _⟩ => ⟨S768, .f32⟩
  | .hbm, ⟨64, _⟩ => ⟨S768, .f32⟩
  | .hbm, ⟨65, _⟩ => ⟨S768, .f32⟩
  | .hbm, ⟨66, _⟩ => ⟨S1x768, .f32⟩
  | .hbm, ⟨67, _⟩ => ⟨S384, .f32⟩
  | .hbm, ⟨68, _⟩ => ⟨S1x384, .f32⟩
  | .hbm, ⟨69, _⟩ => ⟨S384, .f32⟩
  | .hbm, ⟨70, _⟩ => ⟨S1x384, .f32⟩
  | .hbm, ⟨71, _⟩ => ⟨S1x384, .f32⟩
  | .hbm, ⟨72, _⟩ => ⟨S1x200, .f32⟩
  | .hbm, ⟨73, _⟩ => ⟨S1x1, .f32⟩
  | .hbm, ⟨74, _⟩ => ⟨S10000x2, .f32⟩
  | .hbm, ⟨75, _⟩ => ⟨S2x10000, .f32⟩
  | .local _ .vmem, ⟨0, _⟩ => ⟨S8x2000x256, .bf16⟩
  | .local _ .vmem, ⟨1, _⟩ => ⟨S8x2000x256, .bf16⟩
  | .local _ .vmem, ⟨2, _⟩ => ⟨S2000x200, .f32⟩
  | .local _ .vmem, ⟨3, _⟩ => ⟨S2000x200, .f32⟩
  | .local _ .vmem, ⟨4, _⟩ => ⟨S256x1152, .bf16⟩
  | .local _ .vmem, ⟨5, _⟩ => ⟨S640x768, .bf16⟩
  | .local _ .vmem, ⟨6, _⟩ => ⟨S384x384, .bf16⟩
  | .local _ .vmem, ⟨7, _⟩ => ⟨S1x768, .f32⟩
  | .local _ .vmem, ⟨8, _⟩ => ⟨S1x384, .f32⟩
  | .local _ .vmem, ⟨9, _⟩ => ⟨S1x384, .f32⟩
  | .local _ .vmem, ⟨10, _⟩ => ⟨S1x384, .f32⟩
  | .local _ .vmem, ⟨11, _⟩ => ⟨S1x200, .f32⟩
  | .local _ .vmem, ⟨12, _⟩ => ⟨S1x1, .f32⟩
  | .local _ .vmem, ⟨13, _⟩ => ⟨S2000x2, .f32⟩
  | .local _ .vmem, ⟨14, _⟩ => ⟨S2000x2, .f32⟩
  | _, _ => ⟨S10000x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x200 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S10000x8x256 : Shape := ⟨3, ![10000, 8, 256]⟩
abbrev S10000x200 : Shape := ⟨2, ![10000, 200]⟩
abbrev S2x160000 : Shape := ⟨2, ![2, 160000]⟩
abbrev S1152x256 : Shape := ⟨2, ![1152, 256]⟩
abbrev S1152x384 : Shape := ⟨2, ![1152, 384]⟩
abbrev S1152 : Shape := ⟨1, ![1152]⟩
abbrev S128x384 : Shape := ⟨2, ![128, 384]⟩
abbrev S128 : Shape := ⟨1, ![128]⟩
abbrev S128x200 : Shape := ⟨2, ![128, 200]⟩
abbrev S2x512 : Shape := ⟨2, ![2, 512]⟩
abbrev S2 : Shape := ⟨1, ![2]⟩
abbrev S_ : Shape := ⟨0, ![]⟩
abbrev S10000x384 : Shape := ⟨2, ![10000, 384]⟩
abbrev S10000x1x256 : Shape := ⟨3, ![10000, 1, 256]⟩
abbrev S10000x256 : Shape := ⟨2, ![10000, 256]⟩
abbrev S256x1152 : Shape := ⟨2, ![256, 1152]⟩
abbrev S10000x1152 : Shape := ⟨2, ![10000, 1152]⟩
abbrev S1x1152 : Shape := ⟨2, ![1, 1152]⟩
abbrev S384x1152 : Shape := ⟨2, ![384, 1152]⟩
abbrev S384x128 : Shape := ⟨2, ![384, 128]⟩
abbrev S10000x128 : Shape := ⟨2, ![10000, 128]⟩
abbrev S1x128 : Shape := ⟨2, ![1, 128]⟩
abbrev S200x128 : Shape := ⟨2, ![200, 128]⟩
abbrev S10000x512 : Shape := ⟨2, ![10000, 512]⟩
abbrev S512x2 : Shape := ⟨2, ![512, 2]⟩
abbrev S10000x2 : Shape := ⟨2, ![10000, 2]⟩
abbrev S1x2 : Shape := ⟨2, ![1, 2]⟩
abbrev S10000 : Shape := ⟨1, ![10000]⟩
abbrev S10000x1 : Shape := ⟨2, ![10000, 1]⟩
abbrev S2x10000 : Shape := ⟨2, ![2, 10000]⟩

abbrev nBuf : Space → Nat
  | .hbm => 424
  | .vmem => 0
  | .smem => 0
  | _ => 0

abbrev hbmTy0_0 (i : Nat) : BufTy := match i % 128 with
  | 0 => ⟨S10000x8x256, .f32⟩
  | 1 => ⟨S10000x200, .f32⟩
  | 2 => ⟨S2x160000, .i32⟩
  | 3 => ⟨S1152x256, .f32⟩
  | 4 => ⟨S1152x384, .f32⟩
  | 5 => ⟨S1152, .f32⟩
  | 6 => ⟨S1152, .f32⟩
  | 7 => ⟨S128x384, .f32⟩
  | 8 => ⟨S128, .f32⟩
  | 9 => ⟨S128x384, .f32⟩
  | 10 => ⟨S128, .f32⟩
  | 11 => ⟨S128x384, .f32⟩
  | 12 => ⟨S128, .f32⟩
  | 13 => ⟨S128x200, .f32⟩
  | 14 => ⟨S128, .f32⟩
  | 15 => ⟨S2x512, .f32⟩
  | 16 => ⟨S2, .f32⟩
  | 17 => ⟨S_, .f32⟩
  | 18 => ⟨S10000x384, .f32⟩
  | 19 => ⟨S10000x1x256, .f32⟩
  | 20 => ⟨S10000x256, .f32⟩
  | 21 => ⟨S256x1152, .f32⟩
  | 22 => ⟨S10000x1152, .f32⟩
  | 23 => ⟨S1x1152, .f32⟩
  | 24 => ⟨S10000x1152, .f32⟩
  | 25 => ⟨S10000x1152, .f32⟩
  | 26 => ⟨S384x1152, .f32⟩
  | 27 => ⟨S10000x1152, .f32⟩
  | 28 => ⟨S1x1152, .f32⟩
  | 29 => ⟨S10000x1152, .f32⟩
  | 30 => ⟨S10000x1152, .f32⟩
  | 31 => ⟨S10000x384, .f32⟩
  | 32 => ⟨S10000x384, .f32⟩
  | 33 => ⟨S10000x384, .f32⟩
  | 34 => ⟨S10000x384, .f32⟩
  | 35 => ⟨S10000x384, .f32⟩
  | 36 => ⟨S10000x384, .f32⟩
  | 37 => ⟨S10000x384, .f32⟩
  | 38 => ⟨S10000x384, .f32⟩
  | 39 => ⟨S10000x384, .f32⟩
  | 40 => ⟨S_, .f32⟩
  | 41 => ⟨S10000x384, .f32⟩
  | 42 => ⟨S10000x384, .f32⟩
  | 43 => ⟨S_, .f32⟩
  | 44 => ⟨S10000x384, .f32⟩
  | 45 => ⟨S10000x384, .f32⟩
  | 46 => ⟨S10000x384, .f32⟩
  | 47 => ⟨S10000x384, .f32⟩
  | 48 => ⟨S10000x384, .f32⟩
  | 49 => ⟨S_, .f32⟩
  | 50 => ⟨S10000x384, .f32⟩
  | 51 => ⟨S10000x384, .f32⟩
  | 52 => ⟨S_, .f32⟩
  | 53 => ⟨S10000x384, .f32⟩
  | 54 => ⟨S10000x384, .f32⟩
  | 55 => ⟨S10000x384, .f32⟩
  | 56 => ⟨S10000x384, .f32⟩
  | 57 => ⟨S10000x384, .f32⟩
  | 58 => ⟨S_, .f32⟩
  | 59 => ⟨S10000x384, .f32⟩
  | 60 => ⟨S10000x384, .f32⟩
  | 61 => ⟨S10000x384, .f32⟩
  | 62 => ⟨S10000x384, .f32⟩
  | 63 => ⟨S10000x384, .f32⟩
  | 64 => ⟨S10000x1x256, .f32⟩
  | 65 => ⟨S10000x256, .f32⟩
  | 66 => ⟨S256x1152, .f32⟩
  | 67 => ⟨S10000x1152, .f32⟩
  | 68 => ⟨S1x1152, .f32⟩
  | 69 => ⟨S10000x1152, .f32⟩
  | 70 => ⟨S10000x1152, .f32⟩
  | 71 => ⟨S384x1152, .f32⟩
  | 72 => ⟨S10000x1152, .f32⟩
  | 73 => ⟨S1x1152, .f32⟩
  | 74 => ⟨S10000x1152, .f32⟩
  | 75 => ⟨S10000x1152, .f32⟩
  | 76 => ⟨S10000x384, .f32⟩
  | 77 => ⟨S10000x384, .f32⟩
  | 78 => ⟨S10000x384, .f32⟩
  | 79 => ⟨S10000x384, .f32⟩
  | 80 => ⟨S10000x384, .f32⟩
  | 81 => ⟨S10000x384, .f32⟩
  | 82 => ⟨S10000x384, .f32⟩
  | 83 => ⟨S10000x384, .f32⟩
  | 84 => ⟨S10000x384, .f32⟩
  | 85 => ⟨S_, .f32⟩
  | 86 => ⟨S10000x384, .f32⟩
  | 87 => ⟨S10000x384, .f32⟩
  | 88 => ⟨S_, .f32⟩
  | 89 => ⟨S10000x384, .f32⟩
  | 90 => ⟨S10000x384, .f32⟩
  | 91 => ⟨S10000x384, .f32⟩
  | 92 => ⟨S10000x384, .f32⟩
  | 93 => ⟨S10000x384, .f32⟩
  | 94 => ⟨S_, .f32⟩
  | 95 => ⟨S10000x384, .f32⟩
  | 96 => ⟨S10000x384, .f32⟩
  | 97 => ⟨S_, .f32⟩
  | 98 => ⟨S10000x384, .f32⟩
  | 99 => ⟨S10000x384, .f32⟩
  | 100 => ⟨S10000x384, .f32⟩
  | 101 => ⟨S10000x384, .f32⟩
  | 102 => ⟨S10000x384, .f32⟩
  | 103 => ⟨S_, .f32⟩
  | 104 => ⟨S10000x384, .f32⟩
  | 105 => ⟨S10000x384, .f32⟩
  | 106 => ⟨S10000x384, .f32⟩
  | 107 => ⟨S10000x384, .f32⟩
  | 108 => ⟨S10000x384, .f32⟩
  | 109 => ⟨S10000x1x256, .f32⟩
  | 110 => ⟨S10000x256, .f32⟩
  | 111 => ⟨S256x1152, .f32⟩
  | 112 => ⟨S10000x1152, .f32⟩
  | 113 => ⟨S1x1152, .f32⟩
  | 114 => ⟨S10000x1152, .f32⟩
  | 115 => ⟨S10000x1152, .f32⟩
  | 116 => ⟨S384x1152, .f32⟩
  | 117 => ⟨S10000x1152, .f32⟩
  | 118 => ⟨S1x1152, .f32⟩
  | 119 => ⟨S10000x1152, .f32⟩
  | 120 => ⟨S10000x1152, .f32⟩
  | 121 => ⟨S10000x384, .f32⟩
  | 122 => ⟨S10000x384, .f32⟩
  | 123 => ⟨S10000x384, .f32⟩
  | 124 => ⟨S10000x384, .f32⟩
  | 125 => ⟨S10000x384, .f32⟩
  | 126 => ⟨S10000x384, .f32⟩
  | 127 => ⟨S10000x384, .f32⟩
  | _ => ⟨S10000x8x256, .f32⟩

abbrev hbmTy0_1 (i : Nat) : BufTy := match i % 128 with
  | 0 => ⟨S10000x384, .f32⟩
  | 1 => ⟨S10000x384, .f32⟩
  | 2 => ⟨S_, .f32⟩
  | 3 => ⟨S10000x384, .f32⟩
  | 4 => ⟨S10000x384, .f32⟩
  | 5 => ⟨S_, .f32⟩
  | 6 => ⟨S10000x384, .f32⟩
  | 7 => ⟨S10000x384, .f32⟩
  | 8 => ⟨S10000x384, .f32⟩
  | 9 => ⟨S10000x384, .f32⟩
  | 10 => ⟨S10000x384, .f32⟩
  | 11 => ⟨S_, .f32⟩
  | 12 => ⟨S10000x384, .f32⟩
  | 13 => ⟨S10000x384, .f32⟩
  | 14 => ⟨S_, .f32⟩
  | 15 => ⟨S10000x384, .f32⟩
  | 16 => ⟨S10000x384, .f32⟩
  | 17 => ⟨S10000x384, .f32⟩
  | 18 => ⟨S10000x384, .f32⟩
  | 19 => ⟨S10000x384, .f32⟩
  | 20 => ⟨S_, .f32⟩
  | 21 => ⟨S10000x384, .f32⟩
  | 22 => ⟨S10000x384, .f32⟩
  | 23 => ⟨S10000x384, .f32⟩
  | 24 => ⟨S10000x384, .f32⟩
  | 25 => ⟨S10000x384, .f32⟩
  | 26 => ⟨S10000x1x256, .f32⟩
  | 27 => ⟨S10000x256, .f32⟩
  | 28 => ⟨S256x1152, .f32⟩
  | 29 => ⟨S10000x1152, .f32⟩
  | 30 => ⟨S1x1152, .f32⟩
  | 31 => ⟨S10000x1152, .f32⟩
  | 32 => ⟨S10000x1152, .f32⟩
  | 33 => ⟨S384x1152, .f32⟩
  | 34 => ⟨S10000x1152, .f32⟩
  | 35 => ⟨S1x1152, .f32⟩
  | 36 => ⟨S10000x1152, .f32⟩
  | 37 => ⟨S10000x1152, .f32⟩
  | 38 => ⟨S10000x384, .f32⟩
  | 39 => ⟨S10000x384, .f32⟩
  | 40 => ⟨S10000x384, .f32⟩
  | 41 => ⟨S10000x384, .f32⟩
  | 42 => ⟨S10000x384, .f32⟩
  | 43 => ⟨S10000x384, .f32⟩
  | 44 => ⟨S10000x384, .f32⟩
  | 45 => ⟨S10000x384, .f32⟩
  | 46 => ⟨S10000x384, .f32⟩
  | 47 => ⟨S_, .f32⟩
  | 48 => ⟨S10000x384, .f32⟩
  | 49 => ⟨S10000x384, .f32⟩
  | 50 => ⟨S_, .f32⟩
  | 51 => ⟨S10000x384, .f32⟩
  | 52 => ⟨S10000x384, .f32⟩
  | 53 => ⟨S10000x384, .f32⟩
  | 54 => ⟨S10000x384, .f32⟩
  | 55 => ⟨S10000x384, .f32⟩
  | 56 => ⟨S_, .f32⟩
  | 57 => ⟨S10000x384, .f32⟩
  | 58 => ⟨S10000x384, .f32⟩
  | 59 => ⟨S_, .f32⟩
  | 60 => ⟨S10000x384, .f32⟩
  | 61 => ⟨S10000x384, .f32⟩
  | 62 => ⟨S10000x384, .f32⟩
  | 63 => ⟨S10000x384, .f32⟩
  | 64 => ⟨S10000x384, .f32⟩
  | 65 => ⟨S_, .f32⟩
  | 66 => ⟨S10000x384, .f32⟩
  | 67 => ⟨S10000x384, .f32⟩
  | 68 => ⟨S10000x384, .f32⟩
  | 69 => ⟨S10000x384, .f32⟩
  | 70 => ⟨S10000x384, .f32⟩
  | 71 => ⟨S10000x1x256, .f32⟩
  | 72 => ⟨S10000x256, .f32⟩
  | 73 => ⟨S256x1152, .f32⟩
  | 74 => ⟨S10000x1152, .f32⟩
  | 75 => ⟨S1x1152, .f32⟩
  | 76 => ⟨S10000x1152, .f32⟩
  | 77 => ⟨S10000x1152, .f32⟩
  | 78 => ⟨S384x1152, .f32⟩
  | 79 => ⟨S10000x1152, .f32⟩
  | 80 => ⟨S1x1152, .f32⟩
  | 81 => ⟨S10000x1152, .f32⟩
  | 82 => ⟨S10000x1152, .f32⟩
  | 83 => ⟨S10000x384, .f32⟩
  | 84 => ⟨S10000x384, .f32⟩
  | 85 => ⟨S10000x384, .f32⟩
  | 86 => ⟨S10000x384, .f32⟩
  | 87 => ⟨S10000x384, .f32⟩
  | 88 => ⟨S10000x384, .f32⟩
  | 89 => ⟨S10000x384, .f32⟩
  | 90 => ⟨S10000x384, .f32⟩
  | 91 => ⟨S10000x384, .f32⟩
  | 92 => ⟨S_, .f32⟩
  | 93 => ⟨S10000x384, .f32⟩
  | 94 => ⟨S10000x384, .f32⟩
  | 95 => ⟨S_, .f32⟩
  | 96 => ⟨S10000x384, .f32⟩
  | 97 => ⟨S10000x384, .f32⟩
  | 98 => ⟨S10000x384, .f32⟩
  | 99 => ⟨S10000x384, .f32⟩
  | 100 => ⟨S10000x384, .f32⟩
  | 101 => ⟨S_, .f32⟩
  | 102 => ⟨S10000x384, .f32⟩
  | 103 => ⟨S10000x384, .f32⟩
  | 104 => ⟨S_, .f32⟩
  | 105 => ⟨S10000x384, .f32⟩
  | 106 => ⟨S10000x384, .f32⟩
  | 107 => ⟨S10000x384, .f32⟩
  | 108 => ⟨S10000x384, .f32⟩
  | 109 => ⟨S10000x384, .f32⟩
  | 110 => ⟨S_, .f32⟩
  | 111 => ⟨S10000x384, .f32⟩
  | 112 => ⟨S10000x384, .f32⟩
  | 113 => ⟨S10000x384, .f32⟩
  | 114 => ⟨S10000x384, .f32⟩
  | 115 => ⟨S10000x384, .f32⟩
  | 116 => ⟨S10000x1x256, .f32⟩
  | 117 => ⟨S10000x256, .f32⟩
  | 118 => ⟨S256x1152, .f32⟩
  | 119 => ⟨S10000x1152, .f32⟩
  | 120 => ⟨S1x1152, .f32⟩
  | 121 => ⟨S10000x1152, .f32⟩
  | 122 => ⟨S10000x1152, .f32⟩
  | 123 => ⟨S384x1152, .f32⟩
  | 124 => ⟨S10000x1152, .f32⟩
  | 125 => ⟨S1x1152, .f32⟩
  | 126 => ⟨S10000x1152, .f32⟩
  | 127 => ⟨S10000x1152, .f32⟩
  | _ => ⟨S10000x8x256, .f32⟩

abbrev hbmTy0_2 (i : Nat) : BufTy := match i % 128 with
  | 0 => ⟨S10000x384, .f32⟩
  | 1 => ⟨S10000x384, .f32⟩
  | 2 => ⟨S10000x384, .f32⟩
  | 3 => ⟨S10000x384, .f32⟩
  | 4 => ⟨S10000x384, .f32⟩
  | 5 => ⟨S10000x384, .f32⟩
  | 6 => ⟨S10000x384, .f32⟩
  | 7 => ⟨S10000x384, .f32⟩
  | 8 => ⟨S10000x384, .f32⟩
  | 9 => ⟨S_, .f32⟩
  | 10 => ⟨S10000x384, .f32⟩
  | 11 => ⟨S10000x384, .f32⟩
  | 12 => ⟨S_, .f32⟩
  | 13 => ⟨S10000x384, .f32⟩
  | 14 => ⟨S10000x384, .f32⟩
  | 15 => ⟨S10000x384, .f32⟩
  | 16 => ⟨S10000x384, .f32⟩
  | 17 => ⟨S10000x384, .f32⟩
  | 18 => ⟨S_, .f32⟩
  | 19 => ⟨S10000x384, .f32⟩
  | 20 => ⟨S10000x384, .f32⟩
  | 21 => ⟨S_, .f32⟩
  | 22 => ⟨S10000x384, .f32⟩
  | 23 => ⟨S10000x384, .f32⟩
  | 24 => ⟨S10000x384, .f32⟩
  | 25 => ⟨S10000x384, .f32⟩
  | 26 => ⟨S10000x384, .f32⟩
  | 27 => ⟨S_, .f32⟩
  | 28 => ⟨S10000x384, .f32⟩
  | 29 => ⟨S10000x384, .f32⟩
  | 30 => ⟨S10000x384, .f32⟩
  | 31 => ⟨S10000x384, .f32⟩
  | 32 => ⟨S10000x384, .f32⟩
  | 33 => ⟨S10000x1x256, .f32⟩
  | 34 => ⟨S10000x256, .f32⟩
  | 35 => ⟨S256x1152, .f32⟩
  | 36 => ⟨S10000x1152, .f32⟩
  | 37 => ⟨S1x1152, .f32⟩
  | 38 => ⟨S10000x1152, .f32⟩
  | 39 => ⟨S10000x1152, .f32⟩
  | 40 => ⟨S384x1152, .f32⟩
  | 41 => ⟨S10000x1152, .f32⟩
  | 42 => ⟨S1x1152, .f32⟩
  | 43 => ⟨S10000x1152, .f32⟩
  | 44 => ⟨S10000x1152, .f32⟩
  | 45 => ⟨S10000x384, .f32⟩
  | 46 => ⟨S10000x384, .f32⟩
  | 47 => ⟨S10000x384, .f32⟩
  | 48 => ⟨S10000x384, .f32⟩
  | 49 => ⟨S10000x384, .f32⟩
  | 50 => ⟨S10000x384, .f32⟩
  | 51 => ⟨S10000x384, .f32⟩
  | 52 => ⟨S10000x384, .f32⟩
  | 53 => ⟨S10000x384, .f32⟩
  | 54 => ⟨S_, .f32⟩
  | 55 => ⟨S10000x384, .f32⟩
  | 56 => ⟨S10000x384, .f32⟩
  | 57 => ⟨S_, .f32⟩
  | 58 => ⟨S10000x384, .f32⟩
  | 59 => ⟨S10000x384, .f32⟩
  | 60 => ⟨S10000x384, .f32⟩
  | 61 => ⟨S10000x384, .f32⟩
  | 62 => ⟨S10000x384, .f32⟩
  | 63 => ⟨S_, .f32⟩
  | 64 => ⟨S10000x384, .f32⟩
  | 65 => ⟨S10000x384, .f32⟩
  | 66 => ⟨S_, .f32⟩
  | 67 => ⟨S10000x384, .f32⟩
  | 68 => ⟨S10000x384, .f32⟩
  | 69 => ⟨S10000x384, .f32⟩
  | 70 => ⟨S10000x384, .f32⟩
  | 71 => ⟨S10000x384, .f32⟩
  | 72 => ⟨S_, .f32⟩
  | 73 => ⟨S10000x384, .f32⟩
  | 74 => ⟨S10000x384, .f32⟩
  | 75 => ⟨S10000x384, .f32⟩
  | 76 => ⟨S10000x384, .f32⟩
  | 77 => ⟨S10000x384, .f32⟩
  | 78 => ⟨S10000x1x256, .f32⟩
  | 79 => ⟨S10000x256, .f32⟩
  | 80 => ⟨S256x1152, .f32⟩
  | 81 => ⟨S10000x1152, .f32⟩
  | 82 => ⟨S1x1152, .f32⟩
  | 83 => ⟨S10000x1152, .f32⟩
  | 84 => ⟨S10000x1152, .f32⟩
  | 85 => ⟨S384x1152, .f32⟩
  | 86 => ⟨S10000x1152, .f32⟩
  | 87 => ⟨S1x1152, .f32⟩
  | 88 => ⟨S10000x1152, .f32⟩
  | 89 => ⟨S10000x1152, .f32⟩
  | 90 => ⟨S10000x384, .f32⟩
  | 91 => ⟨S10000x384, .f32⟩
  | 92 => ⟨S10000x384, .f32⟩
  | 93 => ⟨S10000x384, .f32⟩
  | 94 => ⟨S10000x384, .f32⟩
  | 95 => ⟨S10000x384, .f32⟩
  | 96 => ⟨S10000x384, .f32⟩
  | 97 => ⟨S10000x384, .f32⟩
  | 98 => ⟨S10000x384, .f32⟩
  | 99 => ⟨S_, .f32⟩
  | 100 => ⟨S10000x384, .f32⟩
  | 101 => ⟨S10000x384, .f32⟩
  | 102 => ⟨S_, .f32⟩
  | 103 => ⟨S10000x384, .f32⟩
  | 104 => ⟨S10000x384, .f32⟩
  | 105 => ⟨S10000x384, .f32⟩
  | 106 => ⟨S10000x384, .f32⟩
  | 107 => ⟨S10000x384, .f32⟩
  | 108 => ⟨S_, .f32⟩
  | 109 => ⟨S10000x384, .f32⟩
  | 110 => ⟨S10000x384, .f32⟩
  | 111 => ⟨S_, .f32⟩
  | 112 => ⟨S10000x384, .f32⟩
  | 113 => ⟨S10000x384, .f32⟩
  | 114 => ⟨S10000x384, .f32⟩
  | 115 => ⟨S10000x384, .f32⟩
  | 116 => ⟨S10000x384, .f32⟩
  | 117 => ⟨S_, .f32⟩
  | 118 => ⟨S10000x384, .f32⟩
  | 119 => ⟨S10000x384, .f32⟩
  | 120 => ⟨S10000x384, .f32⟩
  | 121 => ⟨S10000x384, .f32⟩
  | 122 => ⟨S10000x384, .f32⟩
  | 123 => ⟨S_, .f32⟩
  | 124 => ⟨S10000x384, .f32⟩
  | 125 => ⟨S_, .f32⟩
  | 126 => ⟨S10000x384, .f32⟩
  | 127 => ⟨S384x128, .f32⟩
  | _ => ⟨S10000x8x256, .f32⟩

abbrev hbmTy0_3 (i : Nat) : BufTy := match i % 128 with
  | 0 => ⟨S10000x128, .f32⟩
  | 1 => ⟨S1x128, .f32⟩
  | 2 => ⟨S10000x128, .f32⟩
  | 3 => ⟨S10000x128, .f32⟩
  | 4 => ⟨S384x128, .f32⟩
  | 5 => ⟨S10000x128, .f32⟩
  | 6 => ⟨S1x128, .f32⟩
  | 7 => ⟨S10000x128, .f32⟩
  | 8 => ⟨S10000x128, .f32⟩
  | 9 => ⟨S384x128, .f32⟩
  | 10 => ⟨S10000x128, .f32⟩
  | 11 => ⟨S1x128, .f32⟩
  | 12 => ⟨S10000x128, .f32⟩
  | 13 => ⟨S10000x128, .f32⟩
  | 14 => ⟨S200x128, .f32⟩
  | 15 => ⟨S10000x128, .f32⟩
  | 16 => ⟨S1x128, .f32⟩
  | 17 => ⟨S10000x128, .f32⟩
  | 18 => ⟨S10000x128, .f32⟩
  | 19 => ⟨S10000x512, .f32⟩
  | 20 => ⟨S512x2, .f32⟩
  | 21 => ⟨S10000x2, .f32⟩
  | 22 => ⟨S1x2, .f32⟩
  | 23 => ⟨S10000x2, .f32⟩
  | 24 => ⟨S10000x2, .f32⟩
  | 25 => ⟨S_, .f32⟩
  | 26 => ⟨S10000, .f32⟩
  | 27 => ⟨S_, .f32⟩
  | 28 => ⟨S10000, .f32⟩
  | 29 => ⟨S10000, .f32⟩
  | 30 => ⟨S10000x1, .f32⟩
  | 31 => ⟨S10000x2, .f32⟩
  | 32 => ⟨S10000x2, .f32⟩
  | 33 => ⟨S10000x2, .f32⟩
  | 34 => ⟨S_, .f32⟩
  | 35 => ⟨S10000, .f32⟩
  | 36 => ⟨S10000x1, .f32⟩
  | 37 => ⟨S10000x2, .f32⟩
  | 38 => ⟨S10000x2, .f32⟩
  | 39 => ⟨S2x10000, .f32⟩
  | _ => ⟨S10000x8x256, .f32⟩

abbrev hbmTy (i : Nat) : BufTy := match i / 128 with
  | 0 => hbmTy0_0 i
  | 1 => hbmTy0_1 i
  | 2 => hbmTy0_2 i
  | 3 => hbmTy0_3 i
  | _ => ⟨S10000x8x256, .f32⟩

abbrev bufTy : (tb : Table) → Fin (tcTables nBuf tb) → BufTy
  | .hbm, ⟨i, _⟩ => hbmTy i
  | _, _ => ⟨S10000x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_5 : Ref sig .tc := ⟨.hbm, 85, rfl⟩
abbrev main_v62 : Ref sig .tc := ⟨.hbm, 86, rfl⟩
abbrev main_v63 : Ref sig .tc := ⟨.hbm, 87, rfl⟩
abbrev main_cst_6 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_7 : Ref sig .tc := ⟨.hbm, 94, rfl⟩
abbrev main_v69 : Ref sig .tc := ⟨.hbm, 95, rfl⟩
abbrev main_v70 : Ref sig .tc := ⟨.hbm, 96, rfl⟩
abbrev main_cst_8 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_9 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_10 : Ref sig .tc := ⟨.hbm, 130, rfl⟩
abbrev main_v102 : Ref sig .tc := ⟨.hbm, 131, rfl⟩
abbrev main_v103 : Ref sig .tc := ⟨.hbm, 132, rfl⟩
abbrev main_cst_11 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_12 : Ref sig .tc := ⟨.hbm, 139, rfl⟩
abbrev main_v109 : Ref sig .tc := ⟨.hbm, 140, rfl⟩
abbrev main_v110 : Ref sig .tc := ⟨.hbm, 141, rfl⟩
abbrev main_cst_13 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_14 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_cst_15 : Ref sig .tc := ⟨.hbm, 175, rfl⟩
abbrev main_v142 : Ref sig .tc := ⟨.hbm, 176, rfl⟩
abbrev main_v143 : Ref sig .tc := ⟨.hbm, 177, rfl⟩
abbrev main_cst_16 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_17 : Ref sig .tc := ⟨.hbm, 184, rfl⟩
abbrev main_v149 : Ref sig .tc := ⟨.hbm, 185, rfl⟩
abbrev main_v150 : Ref sig .tc := ⟨.hbm, 186, rfl⟩
abbrev main_cst_18 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_cst_19 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_cst_20 : Ref sig .tc := ⟨.hbm, 220, rfl⟩
abbrev main_v182 : Ref sig .tc := ⟨.hbm, 221, rfl⟩
abbrev main_v183 : Ref sig .tc := ⟨.hbm, 222, rfl⟩
abbrev main_cst_21 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_cst_22 : Ref sig .tc := ⟨.hbm, 229, rfl⟩
abbrev main_v189 : Ref sig .tc := ⟨.hbm, 230, rfl⟩
abbrev main_v190 : Ref sig .tc := ⟨.hbm, 231, rfl⟩
abbrev main_cst_23 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_cst_24 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_cst_25 : Ref sig .tc := ⟨.hbm, 265, rfl⟩
abbrev main_v222 : Ref sig .tc := ⟨.hbm, 266, rfl⟩
abbrev main_v223 : Ref sig .tc := ⟨.hbm, 267, rfl⟩
abbrev main_cst_26 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_cst_27 : Ref sig .tc := ⟨.hbm, 274, rfl⟩
abbrev main_v229 : Ref sig .tc := ⟨.hbm, 275, rfl⟩
abbrev main_v230 : Ref sig .tc := ⟨.hbm, 276, rfl⟩
abbrev main_cst_28 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_cst_29 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_cst_30 : Ref sig .tc := ⟨.hbm, 310, rfl⟩
abbrev main_v262 : Ref sig .tc := ⟨.hbm, 311, rfl⟩
abbrev main_v263 : Ref sig .tc := ⟨.hbm, 312, rfl⟩
abbrev main_cst_31 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_cst_32 : Ref sig .tc := ⟨.hbm, 319, rfl⟩
abbrev main_v269 : Ref sig .tc := ⟨.hbm, 320, rfl⟩
abbrev main_v270 : Ref sig .tc := ⟨.hbm, 321, rfl⟩
abbrev main_cst_33 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_cst_34 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_v279 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_v283 : Ref sig .tc := ⟨.hbm, 336, rfl⟩
abbrev main_v284 : Ref sig .tc := ⟨.hbm, 337, rfl⟩
abbrev main_v285 : Ref sig .tc := ⟨.hbm, 338, rfl⟩
abbrev main_v286 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_cst_35 : Ref sig .tc := ⟨.hbm, 355, rfl⟩
abbrev main_v302 : Ref sig .tc := ⟨.hbm, 356, rfl⟩
abbrev main_v303 : Ref sig .tc := ⟨.hbm, 357, rfl⟩
abbrev main_cst_36 : Ref sig .tc := ⟨.hbm, 358, rfl⟩
abbrev main_v304 : Ref sig .tc := ⟨.hbm, 359, rfl⟩
abbrev main_v305 : Ref sig .tc := ⟨.hbm, 360, rfl⟩
abbrev main_v306 : Ref sig .tc := ⟨.hbm, 361, rfl⟩
abbrev main_v307 : Ref sig .tc := ⟨.hbm, 362, rfl⟩
abbrev main_v308 : Ref sig .tc := ⟨.hbm, 363, rfl⟩
abbrev main_cst_37 : Ref sig .tc := ⟨.hbm, 364, rfl⟩
abbrev main_v309 : Ref sig .tc := ⟨.hbm, 365, rfl⟩
abbrev main_v310 : Ref sig .tc := ⟨.hbm, 366, rfl⟩
abbrev main_cst_38 : Ref sig .tc := ⟨.hbm, 367, rfl⟩
abbrev main_v311 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_cst_39 : Ref sig .tc := ⟨.hbm, 373, rfl⟩
abbrev main_v316 : Ref sig .tc := ⟨.hbm, 374, rfl⟩
abbrev main_v317 : Ref sig .tc := ⟨.hbm, 375, rfl⟩
abbrev main_v318 : Ref sig .tc := ⟨.hbm, 376, rfl⟩
abbrev main_v319 : Ref sig .tc := ⟨.hbm, 377, rfl⟩
abbrev main_v320 : Ref sig .tc := ⟨.hbm, 378, rfl⟩
abbrev main_cst_40 : Ref sig .tc := ⟨.hbm, 379, rfl⟩
abbrev main_v321 : Ref sig .tc := ⟨.hbm, 380, rfl⟩
abbrev main_cst_41 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_v327 : Ref sig .tc := ⟨.hbm, 387, rfl⟩
abbrev main_v328 : Ref sig .tc := ⟨.hbm, 388, rfl⟩
abbrev main_v329 : Ref sig .tc := ⟨.hbm, 389, rfl⟩
abbrev main_v330 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_v334 : Ref sig .tc := ⟨.hbm, 394, rfl⟩
abbrev main_v335 : Ref sig .tc := ⟨.hbm, 395, rfl⟩
abbrev main_v336 : Ref sig .tc := ⟨.hbm, 396, rfl⟩
abbrev main_v337 : Ref sig .tc := ⟨.hbm, 397, rfl⟩
abbrev main_v338 : Ref sig .tc := ⟨.hbm, 398, rfl⟩
abbrev main_v339 : Ref sig .tc := ⟨.hbm, 399, rfl⟩
abbrev main_v340 : Ref sig .tc := ⟨.hbm, 400, rfl⟩
abbrev main_v341 : Ref sig .tc := ⟨.hbm, 401, rfl⟩
abbrev main_v342 : Ref sig .tc := ⟨.hbm, 402, rfl⟩
abbrev main_v343 : Ref sig .tc := ⟨.hbm, 403, rfl⟩
abbrev main_v344 : Ref sig .tc := ⟨.hbm, 404, rfl⟩
abbrev main_v345 : Ref sig .tc := ⟨.hbm, 405, rfl⟩
abbrev main_v346 : Ref sig .tc := ⟨.hbm, 406, rfl⟩
abbrev main_v347 : Ref sig .tc := ⟨.hbm, 407, rfl⟩
abbrev main_v348 : Ref sig .tc := ⟨.hbm, 408, rfl⟩
abbrev main_cst_42 : Ref sig .tc := ⟨.hbm, 409, rfl⟩
abbrev main_v349 : Ref sig .tc := ⟨.hbm, 410, rfl⟩
abbrev main_cst_43 : Ref sig .tc := ⟨.hbm, 411, rfl⟩
abbrev main_v350 : Ref sig .tc := ⟨.hbm, 412, rfl⟩
abbrev main_v351 : Ref sig .tc := ⟨.hbm, 413, rfl⟩
abbrev main_v352 : Ref sig .tc := ⟨.hbm, 414, rfl⟩
abbrev main_v353 : Ref sig .tc := ⟨.hbm, 415, rfl⟩
abbrev main_v354 : Ref sig .tc := ⟨.hbm, 416, rfl⟩
abbrev main_v355 : Ref sig .tc := ⟨.hbm, 417, rfl⟩
abbrev main_cst_44 : Ref sig .tc := ⟨.hbm, 418, rfl⟩
abbrev main_v356 : Ref sig .tc := ⟨.hbm, 419, rfl⟩
abbrev main_v357 : Ref sig .tc := ⟨.hbm, 420, rfl⟩
abbrev main_v358 : Ref sig .tc := ⟨.hbm, 421, rfl⟩
abbrev main_v359 : Ref sig .tc := ⟨.hbm, 422, rfl⟩
abbrev main_v360 : Ref sig .tc := ⟨.hbm, 423, rfl⟩

abbrev nD : Nat := 1
abbrev τ : Topo := Topo.v7x

variable {F : FTy → Type} [FloatOps F]
-- ==== Proof.Spec.lean ====
/-
  The mathematics of the problem for ONE ROW, over the extended reals and without any program: a GRU cell, the state
  after some steps, the two class scores and the softmax of the two. What the reference computes is stated here
  (`cell`, `state`, `score`, `prob`); what the kernel computes instead — the sigmoid through a hyperbolic tangent, the
  update `n + z (h - n)`, the first step without a state, the difference of the scores folded into the weights — is
  shown equal to it.
-/
module

public import Idealize.ShloMosaic.PureOps.Ideal
public import Mathlib.Algebra.BigOperators.Fin
public import Mathlib.Analysis.SpecialFunctions.Trigonometric.DerivHyp

@[expose] public section

noncomputable section

namespace Cert.Proof.Spec

open Idealize.ShloMosaic
open scoped BigOperators

/-! ## Real numbers among the extended reals -/

/-- `x` is a real number: neither infinity. -/
def IsReal (x : EReal) : Prop := ∃ r : ℝ, x = (r : EReal)

theorem isReal_zero : IsReal 0 := ⟨0, rfl⟩

/-- An extended real whose magnitude lies below `⊤` is a real number. -/
theorem isReal_of_ne {x : EReal} (hb : x ≠ ⊥) (ht : x ≠ ⊤) : IsReal x :=
  ⟨x.toReal, (EReal.coe_toReal ht hb).symm⟩

/-- A hyperbolic tangent is a real number, at the infinities too. -/
theorem isReal_tanh (x : EReal) : IsReal (Ideal.tanh x) := by
  induction x using EReal.rec with
  | bot => exact ⟨-1, rfl⟩
  | top => exact ⟨1, rfl⟩
  | coe r => exact ⟨Real.tanh r, rfl⟩

/-- A sigmoid is a real number, at the infinities too. -/
theorem isReal_logistic (x : EReal) : IsReal (Ideal.logistic x) := by
  induction x using EReal.rec with
  | bot => exact ⟨0, by simp⟩
  | top => exact ⟨1, by simp⟩
  | coe r => exact ⟨_, Ideal.logistic_coe r⟩

/-! ## The sigmoid through a hyperbolic tangent -/

/-- Over the reals: `tanh (r/2) / 2 + 1/2 = 1 / (1 + e^(-r))`. -/
theorem real_half_tanh (r : ℝ) : 1 / 2 * Real.tanh (1 / 2 * r) + 1 / 2 = (1 + Real.exp (-r))⁻¹ := by
  have e1 : Real.exp (-r) = Real.exp (-(1 / 2 * r)) * Real.exp (-(1 / 2 * r)) := by
    rw [← Real.exp_add]; congr 1; ring
  have e2 : Real.exp (1 / 2 * r) * Real.exp (-(1 / 2 * r)) = 1 := by rw [← Real.exp_add]; simp
  rw [Real.tanh_eq_sinh_div_cosh, Real.sinh_eq, Real.cosh_eq, e1]
  generalize Real.exp (-(1 / 2 * r)) = b at *
  generalize Real.exp (1 / 2 * r) = a at *
  have hb : b ≠ 0 := by rintro rfl; simp at e2
  obtain rfl : a = b⁻¹ := eq_inv_of_mul_eq_one_left e2
  have hp : 0 < 1 + b * b := by nlinarith [mul_self_nonneg b]
  field_simp
  ring

/-- `tanh (x/2) / 2 + 1/2` is the sigmoid of `x`, at the infinities too. -/
theorem half_tanh (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot,
      show (-1 : EReal) = ((-1 : ℝ) : EReal) from rfl, ← EReal.coe_mul, ← EReal.coe_add]
    norm_num
  | top =>
    rw [EReal.coe_mul_top_of_pos (by norm_num), Ideal.tanh_top, Ideal.logistic_top,
      show (1 : EReal) = ((1 : ℝ) : EReal) from rfl, ← EReal.coe_mul, ← EReal.coe_add]
    norm_num
  | coe r =>
    rw [← EReal.coe_mul, Ideal.tanh_coe, Ideal.logistic_coe, ← EReal.coe_mul, ← EReal.coe_add, real_half_tanh]

/-! ## The GRU cell -/

/-- The weights of a GRU: the input's matrix and offset, the state's matrix and offset; the rows `0 … 383` are the
    reset gate's, `384 … 767` the update gate's, `768 … 1151` the candidate's. -/
structure Weights where
  wih : Fin 1152 → Fin 256 → EReal
  whh : Fin 1152 → Fin 384 → EReal
  bih : Fin 1152 → EReal
  bhh : Fin 1152 → EReal

/-- Column `j` of the reset gate. -/
def rcol (j : Fin 384) : Fin 1152 := ⟨j.val, by omega⟩
/-- Column `j` of the update gate. -/
def zcol (j : Fin 384) : Fin 1152 := ⟨384 + j.val, by omega⟩
/-- Column `j` of the candidate. -/
def ncol (j : Fin 384) : Fin 1152 := ⟨768 + j.val, by omega⟩

variable (w : Weights)

/-- The input's contribution to pre-activation `o`. -/
def gi (x : Fin 256 → EReal) (o : Fin 1152) : EReal := ∑ k, x k * w.wih o k + w.bih o
/-- The state's contribution to pre-activation `o`. -/
def gh (h : Fin 384 → EReal) (o : Fin 1152) : EReal := ∑ k, h k * w.whh o k + w.bhh o
/-- The reset gate. -/
def rgate (x : Fin 256 → EReal) (h : Fin 384 → EReal) (j : Fin 384) : EReal :=
  Ideal.logistic (gi w x (rcol j) + gh w h (rcol j))
/-- The update gate. -/
def zgate (x : Fin 256 → EReal) (h : Fin 384 → EReal) (j : Fin 384) : EReal :=
  Ideal.logistic (gi w x (zcol j) + gh w h (zcol j))
/-- The candidate state. -/
def cand (x : Fin 256 → EReal) (h : Fin 384 → EReal) (j : Fin 384) : EReal :=
  Ideal.tanh (gi w x (ncol j) + rgate w x h j * gh w h (ncol j))
/-- The next state. -/
def cell (x : Fin 256 → EReal) (h : Fin 384 → EReal) (j : Fin 384) : EReal :=
  (1 - zgate w x h j) * cand w x h j + zgate w x h j * h j
/-- The state after `t` steps on the inputs `x 0, x 1, …`, from the zero state. -/
def state (x : ℕ → Fin 256 → EReal) : ℕ → Fin 384 → EReal
  | 0 => fun _ => 0
  | t + 1 => cell w (x t) (state x t)

/-- A cell keeps the state real, whatever the input and the weights are: the gates and the candidate are real. -/
theorem isReal_cell (x : Fin 256 → EReal) {h : Fin 384 → EReal} (hh : ∀ j, IsReal (h j)) (j : Fin 384) :
    IsReal (cell w x h j) := by
  obtain ⟨z, hz⟩ := isReal_logistic (gi w x (zcol j) + gh w h (zcol j))
  obtain ⟨n, hn⟩ := isReal_tanh (gi w x (ncol j) + rgate w x h j * gh w h (ncol j))
  obtain ⟨a, ha⟩ := hh j
  refine ⟨(1 - z) * n + z * a, ?_⟩
  rw [cell, zgate, cand, hz, hn, ha]
  norm_cast

/-- Every state is real. -/
theorem isReal_state (x : ℕ → Fin 256 → EReal) (t : ℕ) (j : Fin 384) : IsReal (state w x t j) := by
  induction t generalizing j with
  | zero => exact isReal_zero
  | succ t ih => exact isReal_cell w (x t) ih j

/-- The update written `n + z (h - n)`: the same for a real state. -/
theorem cell_eq_lerp (x : Fin 256 → EReal) {h : Fin 384 → EReal} (hh : ∀ j, IsReal (h j)) (j : Fin 384) :
    cand w x h j + zgate w x h j * (h j - cand w x h j) = cell w x h j := by
  obtain ⟨z, hz⟩ := isReal_logistic (gi w x (zcol j) + gh w h (zcol j))
  obtain ⟨n, hn⟩ := isReal_tanh (gi w x (ncol j) + rgate w x h j * gh w h (ncol j))
  obtain ⟨a, ha⟩ := hh j
  rw [cell, zgate, cand, hz, hn, ha]
  norm_cast
  ring

/-- The state's contribution at the zero state is the offset. -/
theorem gh_zero (o : Fin 1152) : gh w (fun _ => 0) o = w.bhh o := by
  simp [gh]

/-- The first step, written `n - z n` and without a state. -/
theorem cell_zero (x : Fin 256 → EReal) (j : Fin 384) :
    cand w x (fun _ => 0) j - zgate w x (fun _ => 0) j * cand w x (fun _ => 0) j = cell w x (fun _ => 0) j := by
  obtain ⟨z, hz⟩ := isReal_logistic (gi w x (zcol j) + gh w (fun _ => 0) (zcol j))
  obtain ⟨n, hn⟩ := isReal_tanh (gi w x (ncol j) + rgate w x (fun _ => 0) j * gh w (fun _ => 0) (ncol j))
  rw [cell, zgate, cand, hz, hn, mul_zero, add_zero]
  norm_cast
  ring

/-- A gate's pre-activation as ONE sum over the input and the state, the two offsets added first. -/
theorem fused_preact (x : Fin 256 → EReal) (h : Fin 384 → EReal) (o : Fin 1152) :
    (∑ k, x k * w.wih o k + ∑ k, h k * w.whh o k) + (w.bih o + w.bhh o) = gi w x o + gh w h o := by
  rw [gi, gh]; exact add_add_add_comm _ _ _ _

/-! ## The scores and their softmax -/

/-- The weights behind the GRU: the four linear layers' (the second and third read zero feature vectors, so only
    their offsets count) and the last layer's, whose columns are cut into four groups of 128. -/
structure Head where
  w1 : Fin 128 → Fin 384 → EReal
  b1 : Fin 128 → EReal
  b2 : Fin 128 → EReal
  b3 : Fin 128 → EReal
  w4 : Fin 128 → Fin 200 → EReal
  b4 : Fin 128 → EReal
  w7 : Fin 2 → Fin 512 → EReal
  b7 : Fin 2 → EReal

/-- Column `q` of the last layer's group `g`. -/
def grp (g : Fin 4) (q : Fin 128) : Fin 512 := ⟨128 * g.val + q.val, by omega⟩

variable (p : Head)

/-- Every weight is a real number. -/
structure Head.Real : Prop where
  w1 : ∀ q j, IsReal (p.w1 q j)
  b1 : ∀ q, IsReal (p.b1 q)
  b2 : ∀ q, IsReal (p.b2 q)
  b3 : ∀ q, IsReal (p.b3 q)
  w4 : ∀ q j, IsReal (p.w4 q j)
  b4 : ∀ q, IsReal (p.b4 q)
  w7 : ∀ l q, IsReal (p.w7 l q)
  b7 : ∀ l, IsReal (p.b7 l)

/-- The score of class `l` from the last state `h` and the row `c` of the second input. -/
def score (h : Fin 384 → EReal) (c : Fin 200 → EReal) (l : Fin 2) : EReal :=
  ((∑ q, (∑ j, h j * p.w1 q j + p.b1 q) * p.w7 l (grp 0 q) + ∑ q, p.b2 q * p.w7 l (grp 1 q))
    + ∑ q, p.b3 q * p.w7 l (grp 2 q) + ∑ q, (∑ j, c j * p.w4 q j + p.b4 q) * p.w7 l (grp 3 q)) + p.b7 l

/-- The probability of class `l`: the softmax of the two scores. -/
def prob (h : Fin 384 → EReal) (c : Fin 200 → EReal) (l : Fin 2) : EReal :=
  Ideal.div (Ideal.exp (score p h c l - max (score p h c 0) (score p h c 1)))
    (Ideal.exp (score p h c 0 - max (score p h c 0) (score p h c 1))
      + Ideal.exp (score p h c 1 - max (score p h c 0) (score p h c 1)))

/-- The difference of the last layer's two rows, at column `q` of group `g`. -/
def dw (g : Fin 4) (q : Fin 128) : EReal := p.w7 0 (grp g q) - p.w7 1 (grp g q)

/-- The difference of the scores with the layers folded into one weight per entry of `h` and `c` and one offset. -/
def delta (h : Fin 384 → EReal) (c : Fin 200 → EReal) : EReal :=
  (∑ j, h j * ∑ q, p.w1 q j * dw p 0 q + ∑ j, c j * ∑ q, p.w4 q j * dw p 3 q)
    + ((((∑ q, p.b1 q * dw p 0 q + ∑ q, p.b2 q * dw p 1 q) + ∑ q, p.b3 q * dw p 2 q) + ∑ q, p.b4 q * dw p 3 q)
      + (p.b7 0 - p.b7 1))

/-- A finite sum of real numbers, taken among the extended reals. -/
theorem coe_sum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

/-- Exchanging the two sums of a folded layer, over the reals. -/
theorem fold_layer {m n : ℕ} (h : Fin n → ℝ) (a : Fin m → Fin n → ℝ) (b d : Fin m → ℝ) :
    ∑ q, (∑ j, h j * a q j + b q) * d q = ∑ j, h j * ∑ q, a q j * d q + ∑ q, b q * d q := by
  simp only [add_mul, Finset.sum_add_distrib, Finset.sum_mul, Finset.mul_sum]
  rw [Finset.sum_comm]
  congr 1
  exact Finset.sum_congr rfl fun j _ => Finset.sum_congr rfl fun q _ => by ring

/-- Over real weights the two scores are real numbers, and the folded difference is their difference. -/
theorem delta_eq {h : Fin 384 → EReal} {c : Fin 200 → EReal} (hp : p.Real) (hh : ∀ j, IsReal (h j))
    (hc : ∀ j, IsReal (c j)) :
    ∃ s₀ s₁ : ℝ, score p h c 0 = (s₀ : EReal) ∧ score p h c 1 = (s₁ : EReal) ∧ delta p h c = ((s₀ - s₁ : ℝ) : EReal) := by
  choose w1' e1 using hp.w1
  choose b1' e2 using hp.b1
  choose b2' e3 using hp.b2
  choose b3' e4 using hp.b3
  choose w4' e5 using hp.w4
  choose b4' e6 using hp.b4
  choose w7' e7 using hp.w7
  choose b7' e8 using hp.b7
  choose h' e9 using hh
  choose c' e10 using hc
  have hs : ∀ l, score p h c l
      = ((((∑ q, (∑ j, h' j * w1' q j + b1' q) * w7' l (grp 0 q) + ∑ q, b2' q * w7' l (grp 1 q))
          + ∑ q, b3' q * w7' l (grp 2 q) + ∑ q, (∑ j, c' j * w4' q j + b4' q) * w7' l (grp 3 q)) + b7' l : ℝ) : EReal) := by
    intro l
    simp only [score, e1, e2, e3, e4, e5, e6, e7, e8, e9, e10, ← EReal.coe_mul, ← EReal.coe_add, coe_sum]
  refine ⟨_, _, hs 0, hs 1, ?_⟩
  simp only [delta, dw, e1, e2, e3, e4, e5, e6, e7, e8, e9, e10, ← EReal.coe_mul, ← EReal.coe_add, ← EReal.coe_sub, coe_sum]
  congr 1
  simp only [fold_layer, mul_sub, Finset.sum_sub_distrib]
  ring

/-- The softmax of two real scores: the first probability is the sigmoid of their difference, the second what is left. -/
theorem softmax_two (s₀ s₁ : ℝ) :
    Ideal.div (Ideal.exp ((s₀ : EReal) - max (s₀ : EReal) s₁))
        (Ideal.exp ((s₀ : EReal) - max (s₀ : EReal) s₁) + Ideal.exp ((s₁ : EReal) - max (s₀ : EReal) s₁))
      = Ideal.logistic ((s₀ - s₁ : ℝ) : EReal)
    ∧ Ideal.div (Ideal.exp ((s₁ : EReal) - max (s₀ : EReal) s₁))
        (Ideal.exp ((s₀ : EReal) - max (s₀ : EReal) s₁) + Ideal.exp ((s₁ : EReal) - max (s₀ : EReal) s₁))
      = 1 - Ideal.logistic ((s₀ - s₁ : ℝ) : EReal) := by
  have hm : max (s₀ : EReal) (s₁ : EReal) = ((max s₀ s₁ : ℝ) : EReal) := (EReal.coe_strictMono.monotone.map_max).symm
  generalize max s₀ s₁ = m at hm
  have ha : 0 < Real.exp (s₀ - m) := Real.exp_pos _
  have hb : 0 < Real.exp (s₁ - m) := Real.exp_pos _
  have he : Real.exp (-(s₀ - s₁)) = Real.exp (s₁ - m) / Real.exp (s₀ - m) := by
    rw [← Real.exp_sub]; congr 1; ring
  have hab : Real.exp (s₀ - m) + Real.exp (s₁ - m) ≠ 0 := by positivity
  rw [hm, ← EReal.coe_sub, ← EReal.coe_sub, Ideal.exp_coe, Ideal.exp_coe, ← EReal.coe_add, Ideal.div_coe hab, Ideal.div_coe hab,
    Ideal.logistic_coe, he, ← EReal.coe_mul, ← EReal.coe_mul, show (1 : EReal) = ((1 : ℝ) : EReal) from rfl, ← EReal.coe_sub]
  generalize Real.exp (s₀ - m) = a at *
  generalize Real.exp (s₁ - m) = b at *
  constructor
  · congr 1; field_simp
  · congr 1; field_simp; ring

/-- Over real weights the first class's probability is the sigmoid of the folded difference … -/
theorem prob_zero {h : Fin 384 → EReal} {c : Fin 200 → EReal} (hp : p.Real) (hh : ∀ j, IsReal (h j)) (hc : ∀ j, IsReal (c j)) :
    Ideal.logistic (delta p h c) = prob p h c 0 := by
  obtain ⟨s₀, s₁, h0, h1, hd⟩ := delta_eq p hp hh hc
  rw [prob, h0, h1, hd, (softmax_two s₀ s₁).1]

/-- … and the second class's is what is left of one. -/
theorem prob_one {h : Fin 384 → EReal} {c : Fin 200 → EReal} (hp : p.Real) (hh : ∀ j, IsReal (h j)) (hc : ∀ j, IsReal (c j)) :
    1 - Ideal.logistic (delta p h c) = prob p h c 1 := by
  obtain ⟨s₀, s₁, h0, h1, hd⟩ := delta_eq p hp hh hc
  rw [prob, h0, h1, hd, (softmax_two s₀ s₁).2]

end Cert.Proof.Spec

end
-- ==== Proof.Args.lean ====
module

public import proofs.«01_k».proof.Proof.Spec
public import Idealize.ShloMosaic.Lib.Pointwise

/-! # The mathematics read off the argument arrays

The weights of the GRU and of the head, one row's inputs over time and its other features, each as
entries of the arrays both programs are called with; and the result both are shown to compute. -/

@[expose] public section

noncomputable section

namespace Cert.Proof.Args

open Idealize.ShloMosaic

/-- An array of real numbers or infinities with `a` rows of `b` entries. -/
abbrev Mat (a b : ℕ) : Type := FVec Ideal ⟨2, ![a, b]⟩ .f32

/-- A list of `a` real numbers or infinities. -/
abbrev Lst (a : ℕ) : Type := FVec Ideal ⟨1, ![a]⟩ .f32

/-- The GRU's weights. -/
def weights (wih : Mat 1152 256) (whh : Mat 1152 384) (bih bhh : Lst 1152) : Spec.Weights where
  wih o k := wih (ix2 o k)
  whh o k := whh (ix2 o k)
  bih o := bih (ix1 o)
  bhh o := bhh (ix1 o)

/-- The head's weights. -/
def head (w1 : Mat 128 384) (b1 b2 b3 : Lst 128) (w4 : Mat 128 200) (b4 : Lst 128)
    (w7 : Mat 2 512) (b7 : Lst 2) : Spec.Head where
  w1 q j := w1 (ix2 q j)
  b1 q := b1 (ix1 q)
  b2 q := b2 (ix1 q)
  b3 q := b3 (ix1 q)
  w4 q j := w4 (ix2 q j)
  b4 q := b4 (ix1 q)
  w7 l q := w7 (ix2 l q)
  b7 l := b7 (ix1 l)

/-- The inputs of row `n` over time; there are eight times. -/
def inputs (x : FVec Ideal ⟨3, ![10000, 8, 256]⟩ .f32) (n : Fin 10000) (t : ℕ) (k : Fin 256) :
    EReal :=
  if h : t < 8 then x (ix3 n ⟨t, h⟩ k) else 0

/-- At one of the eight times, the inputs are the array's. -/
theorem inputs_of_lt (x : FVec Ideal ⟨3, ![10000, 8, 256]⟩ .f32) (n : Fin 10000) (t : Fin 8)
    (k : Fin 256) : inputs x n t.val k = x (ix3 n t k) :=
  dif_pos t.isLt

/-- The other features of row `n`. -/
def feats (x : Mat 10000 200) (n : Fin 10000) (k : Fin 200) : EReal := x (ix2 n k)

end Cert.Proof.Args
-- ==== Proof.Chain.lean ====
module

public import proofs.«01_k».proof.Proof.Gen.KernelIdeal.Frame

/-! # One block of the kernel, as five chains of eight steps

The body of the kernel takes its block of 2000 rows in five chunks of 400 rows and interleaves the
chunks' steps. Here the interleaving is undone: each chunk's state is one chain, whose step is one
function of the weights, the step's input rows, the step's input product and the state before. -/

@[expose] public section

noncomputable section

namespace Cert.Proof.Chain

open Idealize.ShloMosaic Cert.KernelIdeal Cert.KernelIdeal.Gen

variable {F : FTy → Type} [FloatOps F]

/-- What the body keeps in registers over all steps: the fused weight of the reset and update gates,
    the candidate's state weight, the fused bias, the candidate's two biases, the block's input rows
    of all times, the state after the first time, and the candidate's input products of the later
    times. -/
structure Kept (F : FTy → Type) where
  wrz : FVec F S640x768 .bf16
  whn : FVec F S384x384 .bf16
  brz : FVec F S1x768 .f32
  bin : FVec F S1x384 .f32
  bhn : FVec F S1x384 .f32
  xs : FVec F S8x2000x256 .bf16
  h0 : FVec F S2000x384 .f32
  gn : FVec F S7x2000x384 .f32

/-- The logistic function as the kernel computes it, by the hyperbolic tangent of the half. -/
def sigm (s : Shape) (x : FVec F s .f32) : FVec F s .f32 :=
  addf (mulf (broadcast s (Scalar.ofBits .f32 0x3F000000#32))
      (tanh (mulf (broadcast s (Scalar.ofBits .f32 0x3F000000#32)) x)))
    (broadcast s (Scalar.ofBits .f32 0x3F000000#32))

/-- One step of one chunk: the gates from the input rows beside the state in one product, the
    candidate from its own two products, and the new state. -/
def step (w : Kept F) (x : FVec F S1x400x256 .bf16) (g : FVec F S1x400x384 .f32)
    (h : FVec F S400x384 .f32) : FVec F S400x384 .f32 :=
  have hb : FVec F S400x384 .bf16 := truncf .bf16 h bitsLt_bf16_f32
  have rz : FVec F S400x768 .f32 := sigm S400x768
    (addf (matmul dot_S400x640_S640x768_S400x768_1_0_0_1_n_n none
        (concatenate S400x640 1
          [⟨S400x256, shapeCast S400x256 x shapeCasts_S1x400x256_S400x256⟩, ⟨S400x384, hb⟩]
          concatenates_S400x256_S400x384_S400x640_d1)
        w.wrz (constant S400x768 .f32 0x00000000#32))
      (broadcastTo S400x768 w.brz broadcasts_S1x768_S400x768))
  have n : FVec F S400x384 .f32 := tanh
    (addf (addf (shapeCast S400x384 g shapeCasts_S1x400x384_S400x384)
        (broadcastTo S400x384 w.bin broadcasts_S1x384_S400x384))
      (mulf (extractStridedSlice S400x384 ![0, 0] rz slices_S400x768_o0_0_S400x384)
        (addf (matmul dot_S400x384_S384x384_S400x384_1_0_0_1_n_n none hb w.whn
            (constant S400x384 .f32 0x00000000#32))
          (broadcastTo S400x384 w.bhn broadcasts_S1x384_S400x384))))
  addf n (mulf (extractStridedSlice S400x384 ![0, 384] rz slices_S400x768_o0_384_S400x384)
    (subf h n))

/-- A chunk's input rows lie within the block's, at every time. -/
theorem slices_x (k : Fin 5) (t : ℕ) (ht : t ≤ 7) :
    S8x2000x256.Slices ![t, 400 * k.val, 0] S1x400x256 := by
  refine ⟨rfl, fun a => ?_⟩
  fin_cases a <;> simp <;> omega

/-- A chunk's input products lie within the block's, at every later time. -/
theorem slices_g (k : Fin 5) (t : ℕ) (ht : t + 1 ≤ 7) :
    S7x2000x384.Slices ![t, 400 * k.val, 0] S1x400x384 := by
  refine ⟨rfl, fun a => ?_⟩
  fin_cases a <;> simp <;> omega

/-- A chunk's rows of the first state lie within the block's. -/
theorem slices_h (k : Fin 5) : S2000x384.Slices ![400 * k.val, 0] S400x384 := by
  refine ⟨rfl, fun a => ?_⟩
  fin_cases a <;> simp <;> omega

/-- The state of chunk `k` after time `t`. -/
def chain (w : Kept F) (k : Fin 5) : (t : ℕ) → t ≤ 7 → FVec F S400x384 .f32
  | 0, _ => extractStridedSlice S400x384 ![400 * k.val, 0] w.h0 (slices_h k)
  | t + 1, ht => step w
      (extractStridedSlice S1x400x256 ![t + 1, 400 * k.val, 0] w.xs (slices_x k (t + 1) ht))
      (extractStridedSlice S1x400x384 ![t, 400 * k.val, 0] w.gn (slices_g k t ht))
      (chain w k t (Nat.le_of_succ_le ht))

/-- The head of a block: the half of the hyperbolic tangent of the half of the difference of the two
    scores, from the five chunks' last states below each other, the other features of the block, the
    differences of the scores' weights and the difference of their constants. -/
def tail (h : Fin 5 → FVec F S400x384 .f32) (d1 : FVec F S1x384 .f32) (x4 : FVec F S2000x200 .f32)
    (d4 : FVec F S1x200 .f32) (dc : FVec F S1x1 .f32) : FVec F S2000x1 .f32 :=
  have p1 : FVec F S2000x384 .f32 := mulf
    (concatenate S2000x384 0
      [⟨S400x384, h 0⟩, ⟨S400x384, h 1⟩, ⟨S400x384, h 2⟩, ⟨S400x384, h 3⟩, ⟨S400x384, h 4⟩]
      concatenates_S400x384_S400x384_S400x384_S400x384_S400x384_S2000x384_d0)
    (broadcastTo S2000x384 (shapeCast S1x384 d1 shapeCasts_S1x384_S1x384)
      broadcasts_S1x384_S2000x384)
  have p4 : FVec F S2000x200 .f32 := mulf x4
    (broadcastTo S2000x200 (shapeCast S1x200 d4 shapeCasts_S1x200_S1x200)
      broadcasts_S1x200_S2000x200)
  have d : FVec F S2000x1 .f32 := addf
    (addf
      (shapeCast S2000x1 (multiReduction .add [1] S2000 p1 0x00000000#32
        reduces_S2000x384_S2000 (.inl rfl) rfl) shapeCasts_S2000_S2000x1)
      (shapeCast S2000x1 (multiReduction .add [1] S2000 p4 0x00000000#32
        reduces_S2000x200_S2000 (.inl rfl) rfl) shapeCasts_S2000_S2000x1))
    (broadcast S2000x1 (extractAt ![0, 0] dc inpos_S1x1_p0_0))
  mulf (broadcast S2000x1 (Scalar.ofBits .f32 0x3F000000#32))
    (tanh (mulf (broadcast S2000x1 (Scalar.ofBits .f32 0x3F000000#32)) d))

/-- What a block keeps, from its windows' contents. -/
def kept (x0 : Vec F S8x2000x256 .bf16) (x2 : Vec F S256x1152 .bf16) (x3 : Vec F S640x768 .bf16)
    (x4 : Vec F S384x384 .bf16) (x5 : Vec F S1x768 .f32) (x6 x7 : Vec F S1x384 .f32) : Kept F where
  wrz := k0_pay3 (View.ld x3 r0_0)
  whn := k0_pay4 (View.ld x4 r0_1)
  brz := k0_pay5 (View.ld x5 r0_2)
  bin := k0_pay6 (View.ld x6 r0_3)
  bhn := k0_pay7 (View.ld x7 r0_3)
  xs := k0_pay8 (View.ld x0 r0_4)
  h0 := k0_pay9 (View.ld x5 r0_2) (View.ld x6 r0_3) (View.ld x7 r0_3) (View.ld x0 r0_4)
    (View.ld x2 r0_5)
  gn := k0_pay11 (k0_pay10 (View.ld x0 r0_4)) (View.ld x2 r0_6)

set_option maxRecDepth 65536 in
/-- The block's value is the head of the five chains. -/
theorem block_eq (x0 : Vec F S8x2000x256 .bf16) (x1 : Vec F S2000x200 .f32)
    (x2 : Vec F S256x1152 .bf16) (x3 : Vec F S640x768 .bf16) (x4 : Vec F S384x384 .bf16)
    (x5 : Vec F S1x768 .f32) (x6 x7 x8 : Vec F S1x384 .f32) (x9 : Vec F S1x200 .f32)
    (x10 : Vec F S1x1 .f32) :
    k0_pay149 x0 x1 x2 x3 x4 x5 x6 x7 x8 x9 x10
      = tail (fun k => chain (kept x0 x2 x3 x4 x5 x6 x7) k 7 le_rfl) (View.ld x8 r0_3)
          (View.ld x1 r0_7) (View.ld x9 r0_8) (View.ld x10 r0_9) := rfl

end Cert.Proof.Chain
-- ==== Proof.Step.lean ====
module

public import proofs.«01_k».proof.Proof.Chain
public import proofs.«01_k».proof.Proof.Spec
public import Idealize.ShloMosaic.Lib.Pointwise

/-! # What one block of the kernel computes

Read at one row, a chain is the GRU's state of that row and the head is the logistic function of the
folded difference of the row's scores. -/

@[expose] public section

set_option maxRecDepth 16384

noncomputable section

namespace Cert.Proof.Step

open Idealize.ShloMosaic Cert.KernelIdeal Cert.KernelIdeal.Gen Cert.Proof.Chain Cert.Proof
open Cert.Proof.Spec (rcol zcol ncol)
open scoped BigOperators

/-- Column `o` of the reset and update gates among the three gates' columns. -/
def rz (o : Fin 768) : Fin 1152 := ⟨o.val, by omega⟩

/-- The windows of one block hold the GRU's weights, the folded weights of the head, and the block's
    rows: `X ρ t` the input of row `ρ` at time `t`, `C ρ` its other features. -/
structure Holds (x0 : Vec Ideal S8x2000x256 .bf16) (x1 : Vec Ideal S2000x200 .f32)
    (x2 : Vec Ideal S256x1152 .bf16) (x3 : Vec Ideal S640x768 .bf16) (x4 : Vec Ideal S384x384 .bf16)
    (x5 : Vec Ideal S1x768 .f32) (x6 x7 x8 : Vec Ideal S1x384 .f32) (x9 : Vec Ideal S1x200 .f32)
    (x10 : Vec Ideal S1x1 .f32) (W : Spec.Weights) (p : Spec.Head)
    (X : Fin 2000 → ℕ → Fin 256 → EReal) (C : Fin 2000 → Fin 200 → EReal) : Prop where
  rows : ∀ (t : Fin 8) (ρ : Fin 2000) (k : Fin 256), x0 (ix3 t ρ k) = X ρ t.val k
  feats : ∀ (ρ : Fin 2000) (k : Fin 200), x1 (ix2 ρ k) = C ρ k
  wih : ∀ (k : Fin 256) (o : Fin 1152), x2 (ix2 k o) = W.wih o k
  fused_x : ∀ (k : Fin 256) (o : Fin 768), x3 (ix2 ⟨k.val, by omega⟩ o) = W.wih (rz o) k
  fused_h : ∀ (k : Fin 384) (o : Fin 768), x3 (ix2 ⟨256 + k.val, by omega⟩ o) = W.whh (rz o) k
  whn : ∀ (k : Fin 384) (j : Fin 384), x4 (ix2 k j) = W.whh (ncol j) k
  brz : ∀ o : Fin 768, x5 (ix2 0 o) = W.bih (rz o) + W.bhh (rz o)
  bin : ∀ j : Fin 384, x6 (ix2 0 j) = W.bih (ncol j)
  bhn : ∀ j : Fin 384, x7 (ix2 0 j) = W.bhh (ncol j)
  d1 : ∀ j : Fin 384, x8 (ix2 0 j) = ∑ q, p.w1 q j * Spec.dw p 0 q
  d4 : ∀ j : Fin 200, x9 (ix2 0 j) = ∑ q, p.w4 q j * Spec.dw p 3 q
  dc : x10 (ix2 0 0) = (((∑ q, p.b1 q * Spec.dw p 0 q + ∑ q, p.b2 q * Spec.dw p 1 q)
    + ∑ q, p.b3 q * Spec.dw p 2 q) + ∑ q, p.b4 q * Spec.dw p 3 q) + (p.b7 0 - p.b7 1)

/-- The kernel's constant is one half. -/
theorem ofBits_half : Ideal.ofBits .f32 1056964608#32 = ((1 / 2 : ℝ) : EReal) := by
  simp [Ideal.ofBits, Ideal.ieee]
  rw [← EReal.coe_mul]
  norm_num

/-- The kernel's logistic function is the logistic function. -/
theorem sigm_half (x : EReal) :
    Ideal.ofBits .f32 1056964608#32 * Ideal.tanh (Ideal.ofBits .f32 1056964608#32 * x)
      + Ideal.ofBits .f32 1056964608#32 = Ideal.logistic x := by
  rw [ofBits_half, Spec.half_tanh]

/-- The reset gate's column among the gates' columns. -/
theorem rz_low (j : Fin 384) : rz ⟨j.val, by omega⟩ = rcol j := rfl

/-- The update gate's column among the gates' columns. -/
theorem rz_high (j : Fin 384) : rz ⟨384 + j.val, by omega⟩ = zcol j := rfl

section

variable {x0 : Vec Ideal S8x2000x256 .bf16} {x1 : Vec Ideal S2000x200 .f32}
  {x2 : Vec Ideal S256x1152 .bf16} {x3 : Vec Ideal S640x768 .bf16} {x4 : Vec Ideal S384x384 .bf16}
  {x5 : Vec Ideal S1x768 .f32} {x6 x7 x8 : Vec Ideal S1x384 .f32} {x9 : Vec Ideal S1x200 .f32}
  {x10 : Vec Ideal S1x1 .f32} {W : Spec.Weights} {p : Spec.Head}
  {X : Fin 2000 → ℕ → Fin 256 → EReal} {C : Fin 2000 → Fin 200 → EReal}
  (H : Holds x0 x1 x2 x3 x4 x5 x6 x7 x8 x9 x10 W p X C)

include H

/-- The first state of a row is the GRU's after one step. -/
theorem h0_apply (ρ : Fin 2000) (j : Fin 384) :
    (kept x0 x2 x3 x4 x5 x6 x7).h0 (ix2 ρ j) = Spec.state W (X ρ) 1 j := by
  pointwise [kept, k0_pay9, k0_pay5, k0_pay6, k0_pay7, k0_pay8, View.ld, r0_2, r0_3, r0_4, r0_5]
  have hx (k : Fin 256) : x0 (ix3 0 ρ k) = X ρ 0 k := H.rows 0 ρ k
  have pre (o : Fin 1152) : ∑ k, X ρ 0 k * W.wih o k + (W.bih o + W.bhh o)
      = Spec.gi W (X ρ 0) o + Spec.gh W (fun _ => 0) o := by
    rw [Spec.gh_zero, Spec.gi, add_assoc]
  simp only [hx, H.wih, H.brz, H.bin, H.bhn, sigm_half, rz_low, rz_high]
  change Ideal.tanh (∑ k, X ρ 0 k * W.wih (ncol j) k + W.bih (ncol j)
      + Ideal.logistic (∑ k, X ρ 0 k * W.wih (rcol j) k + (W.bih (rcol j) + W.bhh (rcol j)))
        * W.bhh (ncol j))
    - Ideal.logistic (∑ k, X ρ 0 k * W.wih (zcol j) k + (W.bih (zcol j) + W.bhh (zcol j)))
      * Ideal.tanh (∑ k, X ρ 0 k * W.wih (ncol j) k + W.bih (ncol j)
      + Ideal.logistic (∑ k, X ρ 0 k * W.wih (rcol j) k + (W.bih (rcol j) + W.bhh (rcol j)))
        * W.bhh (ncol j)) = _
  rw [pre, pre, ← Spec.gh_zero W (ncol j)]
  exact Spec.cell_zero W (X ρ 0) j

/-- The candidate's input products of the later times. -/
theorem gn_apply (t : Fin 7) (ρ : Fin 2000) (j : Fin 384) :
    (kept x0 x2 x3 x4 x5 x6 x7).gn (ix3 t ρ j)
      = ∑ k, X ρ (t.val + 1) k * W.wih (ncol j) k := by
  pointwise [kept, k0_pay11, k0_pay10, k0_pay8, View.ld, r0_4, r0_6]
  refine Finset.sum_congr rfl fun k _ => ?_
  have e : (⟨1 + t.val, by omega⟩ : Fin 8) = ⟨t.val + 1, by omega⟩ := Fin.ext (Nat.add_comm _ _)
  exact congrArg₂ (· * ·) ((congrArg (fun i => x0 (ix3 i ρ k)) e).trans (H.rows _ ρ k))
    (H.wih k (ncol j))

/-- One step of a chunk, at one row: the GRU's cell. -/
theorem step_apply (x : FVec Ideal S1x400x256 .bf16) (g : FVec Ideal S1x400x384 .f32)
    (h : FVec Ideal S400x384 .f32) (r : Fin 400) (x' : Fin 256 → EReal) (h' : Fin 384 → EReal)
    (hx : ∀ k, x (ix3 0 r k) = x' k) (hg : ∀ j, g (ix3 0 r j) = ∑ k, x' k * W.wih (ncol j) k)
    (hh : ∀ j, h (ix2 r j) = h' j) (hr : ∀ j, Spec.IsReal (h' j)) (j : Fin 384) :
    step (kept x0 x2 x3 x4 x5 x6 x7) x g h (ix2 r j) = Spec.cell W x' h' j := by
  pointwise [step, sigm, kept, k0_pay3, k0_pay4, k0_pay5, k0_pay6, k0_pay7, View.ld, r0_0, r0_1,
    r0_2, r0_3]
  simp only [hx, hg, hh, H.fused_x, H.fused_h, H.whn, H.brz, H.bin, H.bhn, sigm_half, rz_low,
    rz_high, Spec.fused_preact]
  exact Spec.cell_eq_lerp W x' hr j

/-- The state of a chunk, at one row: the GRU's state of that row. -/
theorem chain_apply (k : Fin 5) (t : ℕ) (ht : t ≤ 7) (r : Fin 400) (j : Fin 384) :
    chain (kept x0 x2 x3 x4 x5 x6 x7) k t ht (ix2 r j)
      = Spec.state W (X ⟨400 * k.val + r.val, by omega⟩) (t + 1) j := by
  induction t generalizing r j with
  | zero =>
    rw [← h0_apply H]
    pointwise [chain]
  | succ t ih =>
    refine step_apply H _ _ _ r (X ⟨400 * k.val + r.val, by omega⟩ (t + 1))
      (Spec.state W (X ⟨400 * k.val + r.val, by omega⟩) (t + 1)) (fun i => ?_) (fun i => ?_)
      (fun i => ih _ r i) (fun i => Spec.isReal_state W _ _ i) j
    · pointwise [kept, k0_pay8, View.ld, r0_4]
      exact H.rows ⟨t + 1, by omega⟩ _ i
    · rw [← gn_apply H ⟨t, by omega⟩]
      pointwise

/-- The head of a block, at one row. -/
theorem tail_apply (h : Fin 5 → FVec Ideal S400x384 .f32) (h' : Fin 2000 → Fin 384 → EReal)
    (hh : ∀ (k : Fin 5) (r : Fin 400) (j : Fin 384),
      h k (ix2 r j) = h' ⟨400 * k.val + r.val, by omega⟩ j) (ρ : Fin 2000) :
    tail h (View.ld x8 r0_3) (View.ld x1 r0_7) (View.ld x9 r0_8) (View.ld x10 r0_9) (ix2 ρ 0)
      = Ideal.ofBits .f32 1056964608#32 * Ideal.tanh (Ideal.ofBits .f32 1056964608#32
          * Spec.delta p (h' ρ) (C ρ)) := by
  pointwise [tail, View.ld, r0_3, r0_7, r0_8, r0_9]
  have row (k : Fin 5) (r : Fin 400) (e : 400 * k.val + r.val = ρ.val) (j : Fin 384) :
      h k (ix2 r j) = h' ρ j := by
    rw [hh]; congr 1; exact Fin.ext e
  have all (j : Fin 384) :
      (if h1 : ρ.val < 400 then h 0 (ix2 ⟨ρ.val, h1⟩ j)
        else if h2 : ρ.val - 400 < 400 then h 1 (ix2 ⟨ρ.val - 400, h2⟩ j)
        else if h3 : ρ.val - 400 - 400 < 400 then h 2 (ix2 ⟨ρ.val - 400 - 400, h3⟩ j)
        else if h4 : ρ.val - 400 - 400 - 400 < 400 then
          h 3 (ix2 ⟨ρ.val - 400 - 400 - 400, h4⟩ j)
        else h 4 (ix2 ⟨ρ.val - 400 - 400 - 400 - 400, by omega⟩ j)) = h' ρ j := by
    split_ifs <;> (apply row; simp; try omega)
  simp only [all, H.feats, H.d1, H.d4, H.dc, Spec.delta]

/-- The block's first column: the logistic function of the folded difference of the row's scores. -/
theorem col0_apply (ρ : Fin 2000) :
    k0_pay1 (k0_pay149 x0 x1 x2 x3 x4 x5 x6 x7 x8 x9 x10) (Scalar.ofBits .f32 0x3F000000#32)
        (ix2 ρ 0)
      = Ideal.logistic (Spec.delta p (Spec.state W (X ρ) 8) (C ρ)) := by
  rw [block_eq]
  pointwise [k0_pay1]
  rw [tail_apply H _ (fun ρ => Spec.state W (X ρ) 8)
    (fun k r j => chain_apply H k 7 le_rfl r j) ρ, sigm_half]

/-- The block's second column: what the first leaves of one. -/
theorem col1_apply (ρ : Fin 2000) :
    k0_pay2 (k0_pay149 x0 x1 x2 x3 x4 x5 x6 x7 x8 x9 x10) (Scalar.ofBits .f32 0x3F000000#32)
        (ix2 ρ 0)
      = 1 - Ideal.logistic (Spec.delta p (Spec.state W (X ρ) 8) (C ρ)) := by
  rw [← col0_apply H]
  pointwise [k0_pay1, k0_pay2]

end

end Cert.Proof.Step
-- ==== Proof.Host.lean ====
module

public import proofs.«01_k».proof.Proof.Args
public import proofs.«01_k».proof.Proof.Step
public import Idealize.ShloMosaic.Lib.StableHlo.ReadAt

/-! # The arrays the host prepares for the kernel

Before the kernel runs, the host transposes and narrows the inputs and the weights, joins the two
weights of the reset and update gates, adds their biases, and folds the head into the difference of
its two rows. Each prepared array is read here at an index, as a term over the arguments. -/

@[expose] public section

set_option maxRecDepth 16384

noncomputable section

namespace Cert.Proof.Host

open Idealize.ShloMosaic Idealize.ShloMosaic.TcCoe Cert.KernelIdeal Cert.KernelIdeal.Gen Cert.Proof
open Cert.Proof.Spec (ncol)
open Cert.Proof.Step (rz)
open scoped BigOperators

variable (m : (ℓ : Loc nD τ sig) → Buf (Elt Ideal) ℓ) (c : Dev nD)

/-- The GRU's weights in the launch memory. -/
def W : Spec.Weights := Args.weights (m ((c : Thread nD τ).loc main_arg3))
  (m ((c : Thread nD τ).loc main_arg4)) (m ((c : Thread nD τ).loc main_arg5))
  (m ((c : Thread nD τ).loc main_arg6))

/-- The head's weights in the launch memory. -/
def P : Spec.Head := Args.head (m ((c : Thread nD τ).loc main_arg7))
  (m ((c : Thread nD τ).loc main_arg8)) (m ((c : Thread nD τ).loc main_arg10))
  (m ((c : Thread nD τ).loc main_arg12)) (m ((c : Thread nD τ).loc main_arg13))
  (m ((c : Thread nD τ).loc main_arg14)) (m ((c : Thread nD τ).loc main_arg15))
  (m ((c : Thread nD τ).loc main_arg16))

/-- The rows' inputs over time in the launch memory. -/
def X (n : Fin 10000) : ℕ → Fin 256 → EReal := Args.inputs (m ((c : Thread nD τ).loc main_arg0)) n

/-- The rows' other features in the launch memory. -/
def C (n : Fin 10000) : Fin 200 → EReal := Args.feats (m ((c : Thread nD τ).loc main_arg1)) n

/-- The rows' inputs, time first: row `n` at time `t`. -/
theorem rows (t : Fin 8) (n : Fin 10000) (k : Fin 256) :
    (V m c main_v45 : FVec Ideal S8x10000x256 .bf16) (ix3 t n k) = X m c n t.val k := by
  rw [X, Args.inputs_of_lt]
  unfold V V0
  after_reads_at

/-- The input's weight, transposed. -/
theorem wih (k : Fin 256) (o : Fin 1152) :
    (V m c main_v37 : FVec Ideal S256x1152 .bf16) (ix2 k o) = (W m c).wih o k := by
  unfold V V0
  after_reads_at
  rfl

/-- The joined weight of the reset and update gates: the input's rows above, the state's below. -/
theorem fused (i : Fin 640) (o : Fin 768) :
    (V m c main_v42 : FVec Ideal S640x768 .bf16) (ix2 i o) =
      if h : i.val < 256 then (W m c).wih (rz o) ⟨i.val, h⟩
      else (W m c).whh (rz o) ⟨i.val - 256, by omega⟩ := by
  unfold V V0
  after_reads_at
  rfl

/-- The state's weight of the new gate, transposed. -/
theorem whn (k : Fin 384) (j : Fin 384) :
    (V m c main_v43 : FVec Ideal S384x384 .bf16) (ix2 k j) = (W m c).whh (ncol j) k := by
  unfold V V0
  after_reads_at
  rfl

/-- The biases of the reset and update gates, input and state added. -/
theorem brz (o : Fin 768) :
    (V m c main_v49 : FVec Ideal S1x768 .f32) (ix2 0 o)
      = (W m c).bih (rz o) + (W m c).bhh (rz o) := by
  unfold V V0
  after_reads_at
  rfl

/-- The input's bias of the new gate. -/
theorem bin (j : Fin 384) :
    (V m c main_v51 : FVec Ideal S1x384 .f32) (ix2 0 j) = (W m c).bih (ncol j) := by
  unfold V V0
  after_reads_at
  rfl

/-- The state's bias of the new gate. -/
theorem bhn (j : Fin 384) :
    (V m c main_v53 : FVec Ideal S1x384 .f32) (ix2 0 j) = (W m c).bhh (ncol j) := by
  unfold V V0
  after_reads_at
  rfl

/-- The first layer's weight folded with the difference of the last layer's two rows. -/
theorem d1 (j : Fin 384) :
    (V m c main_v54 : FVec Ideal S1x384 .f32) (ix2 0 j)
      = ∑ q, (P m c).w1 q j * Spec.dw (P m c) 0 q := by
  unfold V V0
  after_reads_at
  rfl

/-- The fourth layer's weight folded with the difference of the last layer's two rows. -/
theorem d4 (j : Fin 200) :
    (V m c main_v55 : FVec Ideal S1x200 .f32) (ix2 0 j)
      = ∑ q, (P m c).w4 q j * Spec.dw (P m c) 3 q := by
  unfold V V0
  after_reads_at
  rfl

/-- All the biases of the head folded with that difference. -/
theorem dc :
    (V m c main_v56 : FVec Ideal S1x1 .f32) (ix2 0 0)
      = (((∑ q, (P m c).b1 q * Spec.dw (P m c) 0 q + ∑ q, (P m c).b2 q * Spec.dw (P m c) 1 q)
        + ∑ q, (P m c).b3 q * Spec.dw (P m c) 2 q) + ∑ q, (P m c).b4 q * Spec.dw (P m c) 3 q)
        + ((P m c).b7 0 - (P m c).b7 1) := by
  unfold V V0
  after_reads_at
  rfl

end Cert.Proof.Host
-- ==== Proof.Finite.lean ====
module

public import proofs.«01_k».proof.Defs
public import proofs.«01_k».proof.Proof.Host
public import Idealize.ShloMosaic.Lib.ReduceAll

/-! # What the precondition gives

The precondition says of each of nine arrays that every entry's absolute value is below infinity. Read
entry by entry: the head's weights and the rows' other features are real numbers. -/

@[expose] public section

set_option maxRecDepth 16384

noncomputable section

namespace Cert.Proof.Finite

open Idealize.ShloMosaic Idealize.ShloMosaic.TcCoe Cert.Pre_finite Cert.Proof
open Cert.Proof.Spec (IsReal)

/-- The side conditions the precondition's operations take. -/
instance facts : Cert.Pre_finite.Facts where
  bcast_S_S10000x200 := by decide
  reducesTo_S10000x200_S_d0_1 := by decide
  h_S_ := by decide
  bcast_S_S128x384 := by decide
  reducesTo_S128x384_S_d0_1 := by decide
  bcast_S_S128 := by decide
  reducesTo_S128_S_d0 := by decide
  bcast_S_S128x200 := by decide
  reducesTo_S128x200_S_d0_1 := by decide
  bcast_S_S2x512 := by decide
  reducesTo_S2x512_S_d0_1 := by decide
  bcast_S_S2 := by decide
  reducesTo_S2_S_d0 := by decide

/-- An entry whose absolute value is below infinity is a real number. -/
theorem isReal_of_abs_lt {x : EReal} (h : max x (-x) < ⊤) : IsReal x := by
  refine Spec.isReal_of_ne ?_ ?_ <;> rintro rfl <;> simp at h

/-- The test "every entry's absolute value is below infinity" of an array. -/
def below {s : Shape} (x : FVec Ideal s .f32) (hb : S_.BroadcastsInDim s (![] : Fin 0 → Fin s.rank)) :
    IVec s 1 :=
  cmpf .olt (Host.absf x) (broadcastInDim s ![] hb (constant S_ .f32 0x7F800000#32))

/-- An array all of whose entries pass the test holds real numbers. -/
theorem isReal_of_all {s : Shape} {axes : List (Fin s.rank)} (x : FVec Ideal s .f32)
    (hb : S_.BroadcastsInDim s (![] : Fin 0 → Fin s.rank)) (hr : s.ReducesTo axes S_)
    (hu : 0 < S_.numel) (init : IVec S_ 1) (o : S_.Idx)
    (h : Host.reduce IntOp.andi (below x hb) init hr hu o = 1#1) (i : s.Idx) : IsReal (x i) := by
  have : Subsingleton S_.Idx := ⟨fun a b => funext fun k => k.elim0⟩
  have e := Host.reduce_andi_all _ init hr hu o h i
  have top : Ideal.ofBits .f32 0x7F800000#32 = (⊤ : EReal) := by simp [Ideal.ofBits, Ideal.ieee]
  change BitVec.ofBool (decide (max (x i) (-(x i)) < Ideal.ofBits .f32 0x7F800000#32)) = 1#1 at e
  rw [top] at e
  refine isReal_of_abs_lt ?_
  by_contra hn
  rw [decide_eq_false hn] at e
  exact absurd e (by decide)

variable (m : (ℓ : Loc Cert.KernelIdeal.nD Cert.KernelIdeal.τ Cert.KernelIdeal.sig) → Buf (Elt Ideal) ℓ)
  (c : Dev Cert.KernelIdeal.nD)

/-- Under the precondition the other features and the head's weights are real numbers. -/
theorem real (h : Cert.Pre_KernelIdeal_finite m) :
    (∀ n k, IsReal (Host.C m c n k)) ∧ (Host.P m c).Real := by
  have e := congrFun (h c) (fun k => k.elim0)
  change IntOp.andi (IntOp.andi (IntOp.andi (IntOp.andi (IntOp.andi (IntOp.andi (IntOp.andi (IntOp.andi
    _ _) _) _) _) _) _) _) _ = 1#1 at e
  simp only [IntOp.andi_eq_one] at e
  obtain ⟨⟨⟨⟨⟨⟨⟨⟨h1, h7⟩, h8⟩, h10⟩, h12⟩, h13⟩, h14⟩, h15⟩, h16⟩ := e
  exact ⟨fun n k => isReal_of_all _ _ _ _ _ _ h1 (ix2 n k),
    { w1 := fun q j => isReal_of_all _ _ _ _ _ _ h7 (ix2 q j)
      b1 := fun q => isReal_of_all _ _ _ _ _ _ h8 (ix1 q)
      b2 := fun q => isReal_of_all _ _ _ _ _ _ h10 (ix1 q)
      b3 := fun q => isReal_of_all _ _ _ _ _ _ h12 (ix1 q)
      w4 := fun q j => isReal_of_all _ _ _ _ _ _ h13 (ix2 q j)
      b4 := fun q => isReal_of_all _ _ _ _ _ _ h14 (ix1 q)
      w7 := fun l q => isReal_of_all _ _ _ _ _ _ h15 (ix2 l q)
      b7 := fun l => isReal_of_all _ _ _ _ _ _ h16 (ix1 l) }⟩

end Cert.Proof.Finite
-- ==== Proof.Array.lean ====
module

public import proofs.«01_k».proof.Proof.Host
public import Idealize.ShloMosaic.Lib.Pipeline.Value
public import Idealize.ShloMosaic.Lib.Pipeline.ValueKit

/-! # What the kernel's array holds after all blocks

Each grid point hands the body its own 2000 rows and the same prepared weights, and writes its rows of
the result; together the five points write every row. -/

@[expose] public section

set_option maxRecDepth 16384

noncomputable section

namespace Cert.Proof.Array

open Idealize.ShloMosaic Idealize.ShloMosaic.TcCoe Cert.KernelIdeal Cert.KernelIdeal.Gen Cert.Proof
open Cert.Proof.Host (W P X C)
open Idealize.SL.Sem
open Idealize.ShloMosaic.Pipeline (Dat)

variable (m : (ℓ : Loc nD τ sig) → Buf (Elt Ideal) ℓ) (c : Dev nD)

/-- Row `ρ` of grid point `t` among all rows. -/
def row (t : Fin cfg0.N) (ρ : Fin 2000) : Fin 10000 :=
  ⟨t.val * 2000 + ρ.val, by have : t.val < 5 := t.isLt; omega⟩

/-- The block indices of the moving windows: the inputs over time, the other features, the result. -/
theorem idx (t : Fin grid0.N) : win0_0.index t = ![0, t.val, 0] ∧ win0_1.index t = ![t.val, 0]
    ∧ win0_11.index t = ![t.val, 0] := by
  revert t; decide +kernel

/-- The block indices of the windows that stay. -/
theorem idx_still (t : Fin grid0.N) : win0_2.index t = ![0, 0] ∧ win0_3.index t = ![0, 0]
    ∧ win0_4.index t = ![0, 0] ∧ win0_5.index t = ![0, 0] ∧ win0_6.index t = ![0, 0]
    ∧ win0_7.index t = ![0, 0] ∧ win0_8.index t = ![0, 0] ∧ win0_9.index t = ![0, 0]
    ∧ win0_10.index t = ![0, 0] := by
  revert t; decide +kernel

set_option maxHeartbeats 2000000 in
/-- The windows of grid point `t` hold what the body's reading asks for, on the point's own rows. -/
theorem holds (t : Fin cfg0.N) :
    Step.Holds (iblk m c 0 t) (iblk m c 1 t) (iblk m c 2 t) (iblk m c 3 t) (iblk m c 4 t)
      (iblk m c 5 t) (iblk m c 6 t) (iblk m c 7 t) (iblk m c 8 t) (iblk m c 9 t) (iblk m c 10 t)
      (W m c) (P m c) (fun ρ => X m c (row t ρ)) (fun ρ => C m c (row t ρ)) where
  rows s ρ k := by
    rw [← Host.rows]
    blk_ext [iblk, row, idx t]
  feats ρ k := by
    rw [C, Args.feats, ← V_main_arg1 m c]
    blk_ext [iblk, row, idx t]
  wih k o := by
    rw [← Host.wih]
    blk_ext [iblk, idx_still t]
  fused_x k o := by
    have h := Host.fused m c ⟨k.val, by omega⟩ o
    rw [dif_pos k.isLt] at h
    refine Eq.trans ?_ h
    blk_ext [iblk, idx_still t]
  fused_h k o := by
    have h := Host.fused m c ⟨256 + k.val, by omega⟩ o
    rw [dif_neg (by simp)] at h
    simp only [Nat.add_sub_cancel_left] at h
    refine Eq.trans ?_ h
    blk_ext [iblk, idx_still t]
  whn k j := by
    rw [← Host.whn]
    blk_ext [iblk, idx_still t]
  brz o := by
    rw [← Host.brz]
    blk_ext [iblk, idx_still t]
  bin j := by
    rw [← Host.bin]
    blk_ext [iblk, idx_still t]
  bhn j := by
    rw [← Host.bhn]
    blk_ext [iblk, idx_still t]
  d1 j := by
    rw [← Host.d1]
    blk_ext [iblk, idx_still t]
  d4 j := by
    rw [← Host.d4]
    blk_ext [iblk, idx_still t]
  dc := by
    rw [← Host.dc]
    blk_ext [iblk, idx_still t]

/-- The result of row `n` for class `l`: the logistic function of the folded difference of the scores,
    and what that leaves of one. -/
def out (n : Fin 10000) (l : Fin 2) : EReal :=
  if l = 0 then Ideal.logistic (Spec.delta (P m c) (Spec.state (W m c) (X m c n) 8) (C m c n))
  else 1 - Ideal.logistic (Spec.delta (P m c) (Spec.state (W m c) (X m c n) 8) (C m c n))

/-- What grid point `t` leaves in its block of the result. -/
theorem block (t : Fin cfg0.N) (y : S2000x2.Idx) :
    out0_11 (iblk m c 0 t) (iblk m c 1 t) (iblk m c 2 t) (iblk m c 3 t) (iblk m c 4 t)
      (iblk m c 5 t) (iblk m c 6 t) (iblk m c 7 t) (iblk m c 8 t) (iblk m c 9 t) (iblk m c 10 t) y
      = out m c (row t (y 0)) (y 1) := by
  refine View.canon_apply_of_pieces (Val := Elt Ideal) (e := .f32)
    (fun y : S2000x2.Idx => out m c (row t (y 0)) (y 1)) _ ?_ y (cover0_11 _ _ y)
  simp only [List.forall_mem_cons, List.not_mem_nil, false_imp_iff, implies_true, and_true]
  constructor
  · intro (x : S2000x1.Idx)
    obtain ⟨ρ, l, rfl⟩ : ∃ (ρ : Fin 2000) (l : Fin 1), x = ix2 ρ l := ⟨_, _, eq_ix2 x⟩
    obtain rfl : l = 0 := Subsingleton.elim _ _
    have e0 : r0_11.emb (ix2 ρ 0) 0 = ρ := Fin.ext (by simp [r0_11])
    have e1 : r0_11.emb (ix2 ρ 0) 1 = (1 : Fin 2) := Fin.ext (by simp [r0_11])
    refine (Step.col1_apply (holds m c t) ρ).trans ?_
    change _ = out m c (row t (r0_11.emb (ix2 ρ 0) 0)) (r0_11.emb (ix2 ρ 0) 1)
    rw [e0, e1]
    exact (if_neg (by decide)).symm
  · intro (x : S2000x1.Idx)
    obtain ⟨ρ, l, rfl⟩ : ∃ (ρ : Fin 2000) (l : Fin 1), x = ix2 ρ l := ⟨_, _, eq_ix2 x⟩
    obtain rfl : l = 0 := Subsingleton.elim _ _
    have e0 : r0_10.emb (ix2 ρ 0) 0 = ρ := Fin.ext (by simp [r0_10])
    have e1 : r0_10.emb (ix2 ρ 0) 1 = (0 : Fin 2) := Fin.ext (by simp [r0_10])
    refine (Step.col0_apply (holds m c t) ρ).trans ?_
    change _ = out m c (row t (r0_10.emb (ix2 ρ 0) 0)) (r0_10.emb (ix2 ρ 0) 1)
    rw [e0, e1]
    exact (if_pos rfl).symm

/-- The kernel's array after the run. -/
theorem final : (dats m 0 c).arrAt 11 cfg0.N = fun i : S10000x2.Idx => out m c (i 0) (i 1) := by
  refine (dats m 0 c).arrAt_eq_of_covers 11 _ (by decide +kernel) fun t hf y => ?_
  blk_simp
  rw [after0_11]
  refine (block m c t y).trans ?_
  refine congrArg₂ (out m c) (Fin.ext ?_) (Fin.ext ?_)
  · blk_simp [row, idx t]
  · blk_simp [idx t]

end Cert.Proof.Array
-- ==== Proof.Reference.lean ====
module

public import proofs.«01_k».proof.Proof.Gen.ReferenceIdeal.Run
public import proofs.«01_k».proof.Proof.Args

/-! # The reference's eight steps

The reference writes its recurrence out step by step. Here its steps are one function applied eight
times, and the state is read at a row: it is the GRU's state of that row. -/

@[expose] public section

set_option maxRecDepth 16384

noncomputable section

namespace Cert.Proof.Ref

open Idealize.ShloMosaic Idealize.ShloMosaic.TcCoe Idealize.ShloMosaic.StableHlo
open Cert.ReferenceIdeal Cert.ReferenceIdeal.Gen Cert.ReferenceIdeal.Value
open Idealize.SL.Sem
open scoped BigOperators

section

variable {F : FTy → Type} [FloatOps F]

/-- A vector of ones. -/
def ones : FVec F S10000x384 .f32 :=
  broadcastInDim S10000x384 ![] bcast_S_S10000x384 (constant S_ .f32 0x3F800000#32)

/-- The logistic function as the reference writes it. -/
def sigm (x : FVec F S10000x384 .f32) : FVec F S10000x384 .f32 :=
  Host.divf ones (addf ones (Host.exp (Host.negf x)))

/-- One step of the recurrence, on all rows: the weights, the inputs and the state before. -/
def step (wih : FVec F S1152x256 .f32) (whh : FVec F S1152x384 .f32) (bih bhh : FVec F S1152 .f32)
    (x : FVec F S10000x256 .f32) (h : FVec F S10000x384 .f32) : FVec F S10000x384 .f32 :=
  have gi : FVec F S10000x1152 .f32 := addf
    (Host.dotGeneral dot_S10000x256_S256x1152_S10000x1152_1_0_0_1_n_n none x
      (transpose S256x1152 [1, 0] wih transposes_S1152x256_S256x1152_1_0))
    (broadcastInDim S10000x1152 ![0, 1] bcast_S1x1152_S10000x1152_0_1
      (broadcastInDim S1x1152 ![1] bcast_S1152_S1x1152_1 bih))
  have gh : FVec F S10000x1152 .f32 := addf
    (Host.dotGeneral dot_S10000x384_S384x1152_S10000x1152_1_0_0_1_n_n none h
      (transpose S384x1152 [1, 0] whh transposes_S1152x384_S384x1152_1_0))
    (broadcastInDim S10000x1152 ![0, 1] bcast_S1x1152_S10000x1152_0_1
      (broadcastInDim S1x1152 ![1] bcast_S1152_S1x1152_1 bhh))
  have r : FVec F S10000x384 .f32 := sigm (addf
    (extractStridedSlice S10000x384 ![0, 0] gi slices_S10000x1152_S10000x384_0_0)
    (extractStridedSlice S10000x384 ![0, 0] gh slices_S10000x1152_S10000x384_0_0))
  have z : FVec F S10000x384 .f32 := sigm (addf
    (extractStridedSlice S10000x384 ![0, 384] gi slices_S10000x1152_S10000x384_0_384)
    (extractStridedSlice S10000x384 ![0, 384] gh slices_S10000x1152_S10000x384_0_384))
  have n : FVec F S10000x384 .f32 := Host.tanh (addf
    (extractStridedSlice S10000x384 ![0, 768] gi slices_S10000x1152_S10000x384_0_768)
    (mulf r (extractStridedSlice S10000x384 ![0, 768] gh slices_S10000x1152_S10000x384_0_768)))
  addf (mulf (subf ones z) n) (mulf z h)

/-- The inputs of one time lie within the inputs. -/
theorem slices_x (t : ℕ) (ht : t + 1 ≤ 8) : S10000x8x256.Slices ![0, t, 0] S10000x1x256 := by
  refine ⟨rfl, fun a => ?_⟩
  fin_cases a <;> simp <;> omega

/-- The state after `t` steps, from zeros. -/
def state (x : FVec F S10000x8x256 .f32) (wih : FVec F S1152x256 .f32)
    (whh : FVec F S1152x384 .f32) (bih bhh : FVec F S1152 .f32) :
    (t : ℕ) → t ≤ 8 → FVec F S10000x384 .f32
  | 0, _ => broadcastInDim S10000x384 ![] bcast_S_S10000x384 (constant S_ .f32 0x00000000#32)
  | t + 1, ht => step wih whh bih bhh
      (shapeCast S10000x256 (extractStridedSlice S10000x1x256 ![0, t, 0] x (slices_x t ht))
        shapeCasts_S10000x1x256_S10000x256)
      (state x wih whh bih bhh t (Nat.le_of_succ_le ht))

/-- The four feature layers and the last layer, on all rows, from the last state. -/
def scores (h : FVec F S10000x384 .f32) (x4 : FVec F S10000x200 .f32)
    (w1 : FVec F S128x384 .f32) (b1 : FVec F S128 .f32) (w2 : FVec F S128x384 .f32)
    (b2 : FVec F S128 .f32) (w3 : FVec F S128x384 .f32) (b3 : FVec F S128 .f32)
    (w4 : FVec F S128x200 .f32) (b4 : FVec F S128 .f32) (w7 : FVec F S2x512 .f32)
    (b7 : FVec F S2 .f32) : FVec F S10000x2 .f32 :=
  have layer (x : FVec F S10000x384 .f32) (w : FVec F S128x384 .f32) (b : FVec F S128 .f32) :
      FVec F S10000x128 .f32 := addf
    (Host.dotGeneral dot_S10000x384_S384x128_S10000x128_1_0_0_1_n_n none x
      (transpose S384x128 [1, 0] w transposes_S128x384_S384x128_1_0))
    (broadcastInDim S10000x128 ![0, 1] bcast_S1x128_S10000x128_0_1
      (broadcastInDim S1x128 ![1] bcast_S128_S1x128_1 b))
  have zeros : FVec F S10000x384 .f32 :=
    broadcastInDim S10000x384 ![] bcast_S_S10000x384 (constant S_ .f32 0x00000000#32)
  have f4 : FVec F S10000x128 .f32 := addf
    (Host.dotGeneral dot_S10000x200_S200x128_S10000x128_1_0_0_1_n_n none x4
      (transpose S200x128 [1, 0] w4 transposes_S128x200_S200x128_1_0))
    (broadcastInDim S10000x128 ![0, 1] bcast_S1x128_S10000x128_0_1
      (broadcastInDim S1x128 ![1] bcast_S128_S1x128_1 b4))
  addf
    (Host.dotGeneral dot_S10000x512_S512x2_S10000x2_1_0_0_1_n_n none
      (concatenate S10000x512 1
        [⟨S10000x128, layer h w1 b1⟩, ⟨S10000x128, layer zeros w2 b2⟩,
          ⟨S10000x128, layer zeros w3 b3⟩, ⟨S10000x128, f4⟩]
        concatenates_S10000x128_S10000x128_S10000x128_S10000x128_S10000x512_d1)
      (transpose S512x2 [1, 0] w7 transposes_S2x512_S512x2_1_0))
    (broadcastInDim S10000x2 ![0, 1] bcast_S1x2_S10000x2_0_1
      (broadcastInDim S1x2 ![1] bcast_S2_S1x2_1 b7))

/-- The exponentials of the scores less the row's greatest. -/
def exps (s : FVec F S10000x2 .f32) : FVec F S10000x2 .f32 :=
  Host.exp (subf s (broadcastInDim S10000x2 ![0, 1] bcast_S10000x1_S10000x2_0_1
    (broadcastInDim S10000x1 ![0] bcast_S10000_S10000x1_0
      (maximumf (broadcastInDim S10000 ![] bcast_S_S10000 (constant S_ .f32 0xFF800000#32))
        (Host.reduce FloatOps.maximumf s (constant S_ .f32 0xFF800000#32)
          reducesTo_S10000x2_S10000_d1 h_S_)))))

/-- The reference's result from the scores: the softmax, transposed. -/
def result (s : FVec F S10000x2 .f32) : FVec F S2x10000 .f32 :=
  transpose S2x10000 [1, 0]
    (Host.divf (exps s) (broadcastInDim S10000x2 ![0, 1] bcast_S10000x1_S10000x2_0_1
      (broadcastInDim S10000x1 ![0] bcast_S10000_S10000x1_0
        (Host.reduceAdd (exps s) (constant S_ .f32 0x00000000#32)
          reducesTo_S10000x2_S10000_d1 h_S_))))
    transposes_S10000x2_S2x10000_1_0

/-- The scores as the reference's run names them are the scores of the state after eight steps. -/
theorem scores_eq (V : Valuation τ sig (Elt F)) :
    res_main_v348 V = scores
      (state (V (Proc.devRef .tc main_arg0)) (V (Proc.devRef .tc main_arg3))
        (V (Proc.devRef .tc main_arg4)) (V (Proc.devRef .tc main_arg5))
        (V (Proc.devRef .tc main_arg6)) 8 le_rfl)
      (V (Proc.devRef .tc main_arg1)) (V (Proc.devRef .tc main_arg7))
      (V (Proc.devRef .tc main_arg8)) (V (Proc.devRef .tc main_arg9))
      (V (Proc.devRef .tc main_arg10)) (V (Proc.devRef .tc main_arg11))
      (V (Proc.devRef .tc main_arg12)) (V (Proc.devRef .tc main_arg13))
      (V (Proc.devRef .tc main_arg14)) (V (Proc.devRef .tc main_arg15))
      (V (Proc.devRef .tc main_arg16)) := rfl

end

/-- One step, at one row: the GRU's cell. -/
theorem step_apply (wih : FVec Ideal S1152x256 .f32) (whh : FVec Ideal S1152x384 .f32)
    (bih bhh : FVec Ideal S1152 .f32) (x : FVec Ideal S10000x256 .f32)
    (h : FVec Ideal S10000x384 .f32) (n : Fin 10000) (j : Fin 384) :
    step wih whh bih bhh x h (ix2 n j) = Spec.cell (Args.weights wih whh bih bhh)
      (fun k => x (ix2 n k)) (fun k => h (ix2 n k)) j := by
  pointwise [step, sigm, ones]
  rfl

/-- The state after `t` steps, at one row: the GRU's. -/
theorem state_apply (x : FVec Ideal S10000x8x256 .f32) (wih : FVec Ideal S1152x256 .f32)
    (whh : FVec Ideal S1152x384 .f32) (bih bhh : FVec Ideal S1152 .f32) (t : ℕ) (ht : t ≤ 8)
    (n : Fin 10000) (j : Fin 384) :
    state x wih whh bih bhh t ht (ix2 n j)
      = Spec.state (Args.weights wih whh bih bhh) (Args.inputs x n) t j := by
  induction t generalizing j with
  | zero => pointwise [state, Spec.state]
  | succ t ih =>
    refine (step_apply wih whh bih bhh _ _ n j).trans ?_
    have hx (k : Fin 256) : shapeCast S10000x256
        (extractStridedSlice S10000x1x256 ![0, t, 0] x (slices_x t ht))
        shapeCasts_S10000x1x256_S10000x256 (ix2 n k) = Args.inputs x n t k := by
      rw [Args.inputs, dif_pos (show t < 8 from ht)]
      pointwise
    simp only [hx, ih]
    rfl

/-- A sum over the last layer's columns, group by group. -/
theorem sum_groups (f : Fin 512 → EReal) :
    ∑ x, f x = ((∑ q, f (Spec.grp 0 q) + ∑ q, f (Spec.grp 1 q)) + ∑ q, f (Spec.grp 2 q))
      + ∑ q, f (Spec.grp 3 q) := by
  refine (Fin.sum_univ_add (a := 384) (b := 128) f).trans (congrArg₂ (· + ·) ?_ rfl)
  refine (Fin.sum_univ_add (a := 256) (b := 128) _).trans (congrArg₂ (· + ·) ?_ rfl)
  refine (Fin.sum_univ_add (a := 128) (b := 128) _).trans (congrArg₂ (· + ·) ?_ rfl)
  exact Finset.sum_congr rfl fun q _ => congrArg f (Fin.ext (by simp [Spec.grp]))

/-- The scores, at one row, from that row of the state. -/
theorem scores_apply (h : FVec Ideal S10000x384 .f32) (x4 : FVec Ideal S10000x200 .f32)
    (w1 : FVec Ideal S128x384 .f32) (b1 : FVec Ideal S128 .f32) (w2 : FVec Ideal S128x384 .f32)
    (b2 : FVec Ideal S128 .f32) (w3 : FVec Ideal S128x384 .f32) (b3 : FVec Ideal S128 .f32)
    (w4 : FVec Ideal S128x200 .f32) (b4 : FVec Ideal S128 .f32) (w7 : FVec Ideal S2x512 .f32)
    (b7 : FVec Ideal S2 .f32) (n : Fin 10000) (l : Fin 2) :
    scores h x4 w1 b1 w2 b2 w3 b3 w4 b4 w7 b7 (ix2 n l)
      = Spec.score (Args.head w1 b1 b2 b3 w4 b4 w7 b7) (fun j => h (ix2 n j)) (Args.feats x4 n) l := by
  pointwise [scores]
  rw [Spec.score, sum_groups]
  have g0 (q : Fin 128) : (Spec.grp 0 q).val = q.val := by simp [Spec.grp]
  have g1 (q : Fin 128) : (Spec.grp 1 q).val = 128 + q.val := by simp [Spec.grp]
  have g2 (q : Fin 128) : (Spec.grp 2 q).val = 128 + (128 + q.val) := by simp [Spec.grp]; omega
  have g3 (q : Fin 128) : (Spec.grp 3 q).val = 128 + (128 + (128 + q.val)) := by
    simp [Spec.grp]; omega
  simp only [g0, g1, g2, g3, Nat.add_sub_cancel_left, Fin.is_lt, dif_pos,
    Nat.not_lt.mpr (Nat.le_add_right 128 _), not_false_eq_true, dif_neg, zero_mul,
    Finset.sum_const_zero, zero_add]
  rfl

/-- The result, at one row and class: the softmax of the row's two scores. -/
theorem result_apply (s : FVec Ideal S10000x2 .f32) (n : Fin 10000) (l : Fin 2) :
    result s (ix2 l n) = Ideal.div (Ideal.exp (s (ix2 n l) - max (s (ix2 n 0)) (s (ix2 n 1))))
      (Ideal.exp (s (ix2 n 0) - max (s (ix2 n 0)) (s (ix2 n 1)))
        + Ideal.exp (s (ix2 n 1) - max (s (ix2 n 0)) (s (ix2 n 1)))) := by
  pointwise [result, exps]
  have bot : Ideal.ofBits .f32 4286578688#32 = (⊥ : EReal) := by simp [Ideal.ofBits, Ideal.ieee]
  have top : max (⊥ : EReal) (Finset.fold max ⊥ (fun x : Fin 2 => s (ix2 n x)) Finset.univ)
      = max (s (ix2 n 0)) (s (ix2 n 1)) := by
    rw [show (Finset.univ : Finset (Fin 2)) = {0, 1} from rfl]
    simp
  rw [bot, top, Fin.sum_univ_two]

end Cert.Proof.Ref
-- ==== Proof.Result.lean ====
module

public import proofs.«01_k».proof.Proof.Array
public import proofs.«01_k».proof.Proof.Finite
public import proofs.«01_k».proof.Proof.Reference
public import Idealize.ShloMosaic.Lib.Claim

/-! # Both programs' results

The kernel's result is its array transposed; the reference's is the softmax of its scores. Under the
precondition both are, at class `l` and row `n`, the probability of that class for that row. -/

@[expose] public section

set_option maxRecDepth 16384

noncomputable section

namespace Cert.Proof.Result

open Idealize.ShloMosaic Idealize.ShloMosaic.TcCoe Cert.Proof
open Idealize.SL.Sem
open Cert.Proof.Host (W P X C)

section Kernel

open Cert.KernelIdeal Cert.KernelIdeal.Gen

variable (m : (ℓ : Loc nD τ sig) → Buf (Elt Ideal) ℓ) (c : Dev nD)

/-- The probabilities read off the launch memory: class `l` of row `n` at `(l, n)`. -/
def probs : FVec Ideal S2x10000 .f32 := fun i =>
  Spec.prob (P m c) (Spec.state (W m c) (X m c (i 1)) 8) (C m c (i 1)) (i 0)

/-- Under the precondition, the kernel's entry is the probability. -/
theorem out_eq (h : Cert.Pre_KernelIdeal_finite m) (n : Fin 10000) (l : Fin 2) :
    Array.out m c n l = Spec.prob (P m c) (Spec.state (W m c) (X m c n) 8) (C m c n) l := by
  obtain ⟨hc, hp⟩ := Finite.real m c h
  have hh := Spec.isReal_state (W m c) (X m c n) 8
  unfold Array.out
  match l with
  | 0 => exact (if_pos rfl).trans (Spec.prob_zero _ hp hh (hc n))
  | 1 => exact (if_neg (by decide)).trans (Spec.prob_one _ hp hh (hc n))

/-- What the transpose after the kernel leaves in the result. -/
theorem tail_eq : Pipeline.afterTail₀ cfgs (dats m) 0 (V0 m) [hostOps1] c main_v58
    = transpose S2x10000 [1, 0] ((dats m 0 c).arrAt 11 cfg0.N) transposes_S10000x2_S2x10000_1_0 := by
  unfold Pipeline.afterTail₀
  have hw := Pipeline.withArrays_arr spec0 launch0.win.arr_inj c (V0 m c)
    (fun w => (dats m 0 c).arrAt w cfg0.N) 11
  exact congrArg (fun a => transpose S2x10000 [1, 0] a transposes_S10000x2_S2x10000_1_0) hw

/-- Under the precondition, the kernel's result holds the probabilities after the transpose. -/
theorem kernel_eq (h : Cert.Pre_KernelIdeal_finite m) :
    Pipeline.afterTail₀ cfgs (dats m) 0 (V0 m) [hostOps1] c main_v58 = probs m c := by
  rw [tail_eq, Array.final]
  funext i
  obtain ⟨l, n, rfl⟩ : ∃ (l : Fin 2) (n : Fin 10000), i = ix2 l n := ⟨_, _, eq_ix2 i⟩
  refine Eq.trans ?_ (out_eq m c h n l)
  pointwise

/-- The kernel runs and ends with the probabilities in its result. -/
theorem run (ρ : Dev nD → PrngReg) (h : Cert.Pre_KernelIdeal_finite m) :
    θ_run defs (onTc (τ := τ) (main (F := Ideal))) ⟨m, fun _ => 0, ρ⟩ fun r => ∀ c : Dev nD,
      r.2.mem ((c.tc : Thread nD τ).loc main_v58) = probs m c :=
  (θ_run defs _ _).mono (fun _ hr c =>
      ((hr c).2 main_v58 (Pipeline.mem_restRefs_of main_v58 (by decide) (by decide))).trans
        (kernel_eq m c h))
    (run_main m ρ)

end Kernel

section Reference

open Cert.ReferenceIdeal Cert.ReferenceIdeal.Gen Cert.ReferenceIdeal.Value

/-- The reference's result on a memory, at class `l` and row `n`: the probability. -/
theorem reference_apply (V : Valuation τ sig (Elt Ideal)) (n : Fin 10000) (l : Fin 2) :
    Ref.result (res_main_v348 V) (ix2 l n) = Spec.prob
      (Args.head (V (Proc.devRef .tc main_arg7)) (V (Proc.devRef .tc main_arg8))
        (V (Proc.devRef .tc main_arg10)) (V (Proc.devRef .tc main_arg12))
        (V (Proc.devRef .tc main_arg13)) (V (Proc.devRef .tc main_arg14))
        (V (Proc.devRef .tc main_arg15)) (V (Proc.devRef .tc main_arg16)))
      (Spec.state (Args.weights (V (Proc.devRef .tc main_arg3)) (V (Proc.devRef .tc main_arg4))
        (V (Proc.devRef .tc main_arg5)) (V (Proc.devRef .tc main_arg6)))
        (Args.inputs (V (Proc.devRef .tc main_arg0)) n) 8)
      (Args.feats (V (Proc.devRef .tc main_arg1)) n) l := by
  rw [Ref.result_apply, Ref.scores_eq]
  simp only [Ref.scores_apply, Ref.state_apply]
  rfl

/-- The reference's result on a memory, whole, where the memory's arguments are the kernel's. -/
theorem reference_eq (m : (ℓ : Loc Cert.KernelIdeal.nD Cert.KernelIdeal.τ Cert.KernelIdeal.sig) → Buf (Elt Ideal) ℓ)
    (c : Dev Cert.KernelIdeal.nD) (V : Valuation τ sig (Elt Ideal))
    (hP : Args.head (V (Proc.devRef .tc main_arg7)) (V (Proc.devRef .tc main_arg8))
      (V (Proc.devRef .tc main_arg10)) (V (Proc.devRef .tc main_arg12))
      (V (Proc.devRef .tc main_arg13)) (V (Proc.devRef .tc main_arg14))
      (V (Proc.devRef .tc main_arg15)) (V (Proc.devRef .tc main_arg16)) = P m c)
    (hW : Args.weights (V (Proc.devRef .tc main_arg3)) (V (Proc.devRef .tc main_arg4))
      (V (Proc.devRef .tc main_arg5)) (V (Proc.devRef .tc main_arg6)) = W m c)
    (hX : Args.inputs (V (Proc.devRef .tc main_arg0)) = X m c)
    (hC : Args.feats (V (Proc.devRef .tc main_arg1)) = C m c) :
    Ref.result (res_main_v348 V) = probs m c := by
  funext i
  obtain ⟨l, n, rfl⟩ : ∃ (l : Fin 2) (n : Fin 10000), i = ix2 l n := ⟨_, _, eq_ix2 i⟩
  refine (reference_apply V n l).trans ?_
  rw [hP, hW, hX, hC]
  rfl

end Reference

end Cert.Proof.Result
-- ==== Proof.lean ====
/- The certificate: every claim about the kernel and the reference. The programs run, leave their arguments as they were
   and every semaphore counter at zero; the idealized kernel is the kernel's own text; and over the extended reals, where
   the other features and the head's weights are real numbers, the kernel and the reference end with equal results. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Finite
public import proofs.«01_k».proof.Proof.Result
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The reference runs, its arguments end unchanged, and no counter is left up: it has no semaphore. -/
theorem quiescent_reference : Cert.quiescent_ReferenceIdeal := fun m g _ =>
  (θ_run _ _ _).mono (fun r h => ⟨fun c => (h c).2, sem_eq_zero_of_no_sems (by decide) r.2⟩)
    (Cert.ReferenceIdeal.Value.run m g)

/-- Under the precondition the kernel and the reference end with the same result, their arguments unchanged. -/
theorem algebraic : Cert.algebraic_KernelIdeal_ReferenceIdeal_pre_finite := fun m g m' g' hpre hargs =>
  ⟨fun c => Result.probs m c,
    (θ_run _ _ _).mono (fun _ h c => ⟨h.1 c, h.2 c⟩)
      (θ_run_and (Result.run m g hpre) (Cert.KernelIdeal.Gen.unchanged m g)),
    (θ_run _ _ _).mono (fun _ h c => by
        refine ⟨(h c).1.trans ?_, (h c).2⟩
        obtain ⟨h0, h1, -, h3, h4, h5, h6, h7, h8, -, h10, -, h12, h13, h14, h15, h16⟩ := hargs c
        refine Result.reference_eq m c (StableHlo.launchContents m' c) ?_ ?_ ?_ ?_
        · exact congr (congr (congr (congr (congr (congr (congr (congrArg Args.head h7) h8) h10) h12) h13) h14) h15) h16
        · exact congr (congr (congr (congrArg Args.weights h3) h4) h5) h6
        · exact congrArg Args.inputs h0
        · exact congrArg Args.feats h1)
      (Cert.ReferenceIdeal.Value.run m' g')⟩

/-- Every claim of the certificate. -/
theorem claim : Cert.Claim :=
  ⟨Cert.Kernel.Gen.facts, Cert.KernelIdeal.Gen.facts, Cert.ReferenceIdeal.Gen.facts, Finite.facts,
    fun m g _ => Cert.Kernel.Gen.frame m g,
    fun m g _ => Cert.KernelIdeal.Gen.frame m g,
    fun m g _ => Cert.KernelIdeal.Gen.frame m g,
    quiescent_reference,
    fun m g _ => quiescent_reference m g trivial,
    trivial,
    algebraic⟩

end Cert.Proof

end
